-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 512, 512]⟩ ⟨3, ![4, 512, 512]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x512 : Shape := ⟨3, ![1, 512, 512]⟩
abbrev S512x512 : Shape := ⟨2, ![512, 512]⟩
abbrev S2x2x128x512 : Shape := ⟨4, ![2, 2, 128, 512]⟩
abbrev S2x2 : Shape := ⟨2, ![2, 2]⟩
abbrev S_ : Shape := ⟨0, ![]⟩
abbrev S1x128x512 : Shape := ⟨3, ![1, 128, 512]⟩
abbrev S128x512 : Shape := ⟨2, ![128, 512]⟩
abbrev S1x1 : Shape := ⟨2, ![1, 1]⟩
abbrev S1x1x128x512 : Shape := ⟨4, ![1, 1, 128, 512]⟩

abbrev nBuf : Space → Nat
  | .hbm => 2
  | .vmem => 4
  | .smem => 0
  | _ => 0

abbrev bufTy : (tb : Table) → Fin (tcTables nBuf tb) → BufTy
  | .hbm, ⟨0, _⟩ => ⟨S1x512x512, .bf16⟩
  | .hbm, ⟨1, _⟩ => ⟨S512x512, .bf16⟩
  | .local _ .vmem, ⟨0, _⟩ => ⟨S1x512x512, .bf16⟩
  | .local _ .vmem, ⟨1, _⟩ => ⟨S512x512, .bf16⟩
  | .local _ .vmem, ⟨2, _⟩ => ⟨S2x2x128x512, .bf16⟩
  | .local _ .vmem, ⟨3, _⟩ => ⟨S2x2x128x512, .bf16⟩
  | _, _ => ⟨S1x512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_2 : BitVec 32 := 1#32
  let v6 : BitVec 32 := Scalar.muli v3 c1_i32_2
  let v7 : BitVec 32 := Scalar.addi c0_i32 v6
  v7.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_4 : BitVec 32 := 1#32
  let v8 : BitVec 32 := Scalar.muli v4 c1_i32_4
  let v9 : BitVec 32 := Scalar.addi c0_i32_5 v8
  v9.toNat
def k0_dev3 (d0 : Dev nD) : Nat :=
  let c0_i32_29 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_28 : BitVec 32 := 1#32
  let v22 : BitVec 32 := Scalar.muli v3 c1_i32_28
  let v23 : BitVec 32 := Scalar.addi c0_i32_29 v22
  v23.toNat
def k0_dev4 (d0 : Dev nD) : Nat :=
  let c0_i32_41 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_40 : BitVec 32 := 1#32
  let v31 : BitVec 32 := Scalar.muli v4 c1_i32_40
  let v32 : BitVec 32 := Scalar.addi c0_i32_41 v31
  v32.toNat
def k0_dev5 (d0 : Dev nD) : Nat :=
  let c0_i32_52 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_51 : BitVec 32 := 1#32
  let v40 : BitVec 32 := Scalar.muli v3 c1_i32_51
  let v41 : BitVec 32 := Scalar.addi c0_i32_52 v40
  v41.toNat
def k0_dev6 (d0 : Dev nD) : Nat :=
  let c0_i32_63 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_62 : BitVec 32 := 1#32
  let v49 : BitVec 32 := Scalar.muli v4 c1_i32_62
  let v50 : BitVec 32 := Scalar.addi c0_i32_63 v49
  v50.toNat
def k0_dev7 (d0 : Dev nD) : Nat :=
  let c0_i32_105 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_104 : BitVec 32 := 1#32
  let v76 : BitVec 32 := Scalar.muli v4 c1_i32_104
  let v77 : BitVec 32 := Scalar.addi c0_i32_105 v76
  v77.toNat
def k0_dev8 (d0 : Dev nD) : Nat :=
  let c0_i32_147 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_146 : BitVec 32 := 1#32
  let v103 : BitVec 32 := Scalar.muli v3 c1_i32_146
  let v104 : BitVec 32 := Scalar.addi c0_i32_147 v103
  v104.toNat
def k0_dev9 (d0 : Dev nD) : Nat :=
  let c0_i32_190 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_189 : BitVec 32 := 1#32
  let v130 : BitVec 32 := Scalar.muli v4 c1_i32_189
  let v131 : BitVec 32 := Scalar.addi c0_i32_190 v130
  v131.toNat
def k0_dev10 (d0 : Dev nD) : Nat :=
  let c0_i32_233 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_232 : BitVec 32 := 1#32
  let v157 : BitVec 32 := Scalar.muli v3 c1_i32_232
  let v158 : BitVec 32 := Scalar.addi c0_i32_233 v157
  v158.toNat
abbrev stage0_0 : Fin 1 → Memref sig .tc .vmem S1x512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4x512x512 : Shape := ⟨3, ![4, 512, 512]⟩
abbrev S_ : Shape := ⟨0, ![]⟩
abbrev S512x512 : Shape := ⟨2, ![512, 512]⟩

abbrev nBuf : Space → Nat
  | .hbm => 5
  | .vmem => 0
  | .smem => 0
  | _ => 0

abbrev bufTy : (tb : Table) → Fin (tcTables nBuf tb) → BufTy
  | .hbm, ⟨0, _⟩ => ⟨S4x512x512, .bf16⟩
  | .hbm, ⟨1, _⟩ => ⟨S4x512x512, .f32⟩
  | .hbm, ⟨2, _⟩ => ⟨S_, .f32⟩
  | .hbm, ⟨3, _⟩ => ⟨S512x512, .f32⟩
  | .hbm, ⟨4, _⟩ => ⟨S512x512, .bf16⟩
  | _, _ => ⟨S4x512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Data.lean ====
/-
# The butterfly all-reduce: who talks to whom, which rows, which values

Four devices each hold a 512×512 block. The block is cut by rows into four chunks of 128 rows. A chunk's sum over
the four devices is formed in two stages: in each stage a device sends its running chunk to one partner, receives
the partner's, and adds it. The partners are `3 - c` and `c xor 1`; chunks 0 and 1 meet `3 - c` first, chunks 2 and
3 meet it second.

This module names the partners, the semaphores and the memory each transfer uses, and the value a chunk has after
each stage. It says nothing about executions.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Memref
public import Idealize.ShloMosaic.Lib.Tactic

@[expose] public section

noncomputable section

namespace Cert.AllReduce

open Cert.KernelIdeal Cert.KernelIdeal.Gen
open Idealize.ShloMosaic
open Idealize.ShloMosaic.TcCoe

/-! ## Partners -/

/-- A device's two partners: `true` is the device at the mirrored place, `false` the neighbour in its pair. -/
def partner : Bool → Dev nD → Dev nD
  | true, c => ![3, 2, 1, 0] c
  | false, c => ![1, 0, 3, 2] c

/-- A partner's partner is the device itself. -/
theorem partner_partner (b : Bool) (c : Dev nD) : partner b (partner b c) = c := by
  revert b c; decide

/-- Being partners is symmetric, so each partner map is its own inverse. -/
def swap (b : Bool) : Dev nD ≃ Dev nD :=
  ⟨partner b, partner b, partner_partner b, partner_partner b⟩

/-- Which partner chunk `k` is exchanged with in stage `st`. -/
def side (st : ℕ) (k : Fin 4) : Bool := st == k.val / 2

/-- The device chunk `k` of device `c` is exchanged with in stage `st`. -/
abbrev peer (st : ℕ) (k : Fin 4) (c : Dev nD) : Dev nD := partner (side st k) c

/-- The device a chunk is exchanged with exchanges it with this device. -/
theorem peer_peer (st : ℕ) (k : Fin 4) (c : Dev nD) : peer st k (peer st k c) = c := partner_partner _ c

/-! ## Semaphores -/

/-- The barrier semaphore. -/
abbrev barS : Sem sig := (SemArray.scalar (sig.barrier 0 rfl) : Sems sig S_).sem
/-- What the sender of chunk `k` in stage `st` waits on, -/
def sendS (st : Fin 2) (k : Fin 4) : DmaSem sig := ⟨2 + 8 * st.val + k.val, by change _ < 18; omega⟩
/-- and what the receiver waits on. -/
def recvS (st : Fin 2) (k : Fin 4) : DmaSem sig := ⟨6 + 8 * st.val + k.val, by change _ < 18; omega⟩

/-- The same semaphores on device `c`: the barrier, -/
abbrev barCell (c : Dev nD) : GSem nD τ sig := ((c : Thread nD τ), .reg barS)
/-- a sender's, -/
abbrev sendCell (st : Fin 2) (k : Fin 4) (c : Dev nD) : GSem nD τ sig := ((c : Thread nD τ), .dma (sendS st k))
/-- a receiver's. -/
abbrev recvCell (st : Fin 2) (k : Fin 4) (c : Dev nD) : GSem nD τ sig := ((c : Thread nD τ), .dma (recvS st k))

/-! ## Memory -/

/-- The buffer of the input block, -/
abbrev xM : Memref sig .tc .vmem S1x512x512 .bf16 := Memref.whole cc0_stg0_0
/-- and of the output block. -/
abbrev oM : Memref sig .tc .vmem S512x512 .bf16 := Memref.whole cc0_stg1_0
/-- The buffer the transfers of stage `st` land in. -/
def landM : Fin 2 → Memref sig .tc .vmem S2x2x128x512 .bf16
  | ⟨0, _⟩ => Memref.whole cc0_scratch0
  | ⟨_ + 1, _⟩ => Memref.whole cc0_scratch1

/-- Each chunk lies inside the output, -/
theorem rows_inb (k : Fin 4) : ∀ a, (![128 * k.val, 0] : Fin 2 → Nat) a + S128x512.size a ≤ S512x512.size a := by
  revert k; decide
/-- inside the input, -/
theorem xrows_inb (k : Fin 4) : ∀ a, (![0, 128 * k.val, 0] : Fin 3 → Nat) a + S1x128x512.size a ≤ S1x512x512.size a := by
  revert k; decide
/-- and each slot inside its landing buffer. -/
theorem slot_inb (k : Fin 4) : ∀ a, (![k.val / 2, k.val % 2, 0, 0] : Fin 4 → Nat) a + S1x1x128x512.size a ≤ S2x2x128x512.size a := by
  revert k; decide

/-- The rows of chunk `k`, -/
abbrev rows (k : Fin 4) : Rect S512x512 := Rect.unit ![128 * k.val, 0] S128x512.size (rows_inb k)
/-- the same rows of the input block, -/
abbrev xrows (k : Fin 4) : Rect S1x512x512 := Rect.unit ![0, 128 * k.val, 0] S1x128x512.size (xrows_inb k)
/-- and the slot of a landing buffer that receives the chunk. -/
abbrev slot (k : Fin 4) : Rect S2x2x128x512 := Rect.unit ![k.val / 2, k.val % 2, 0, 0] S1x1x128x512.size (slot_inb k)

/-- Chunk `k` of the output, the source of its transfers; -/
abbrev outM (k : Fin 4) : Memref sig .tc .vmem S128x512 .bf16 := oM.slice (rows k) (fun _ => rfl)
/-- its slot in the landing buffer of stage `st`, their destination. -/
abbrev inM (st : Fin 2) (k : Fin 4) : Memref sig .tc .vmem S128x512 .bf16 :=
  ((landM st).slice (slot k) (fun _ => rfl)).squeeze S128x512 squeezes_S1x1x128x512_S128x512

/-! ## The chunks and the slots tile their buffers -/

/-- The chunk a row lies in. -/
def chunkOf (i : S512x512.Idx) : Fin 4 := ⟨(i 0).val / 128, by have h : (i 0).val < 512 := (i 0).isLt; omega⟩

/-- An element lies in a chunk's rows exactly if that is the chunk of its row. -/
theorem mem_rows {k : Fin 4} {i : S512x512.Idx} : i ∈ (rows k).set ↔ chunkOf i = k := by
  have h1 : (i 1).val < 512 := (i 1).isLt
  rw [Rect.mem_set_unit]
  constructor
  · intro h
    have h0 : 128 * k.val ≤ (i 0).val ∧ (i 0).val < 128 * k.val + 128 := h 0
    refine Fin.ext ?_
    show (i 0).val / 128 = k.val
    omega
  · rintro rfl a
    fin_cases a
    · show 128 * ((i 0).val / 128) ≤ (i 0).val ∧ (i 0).val < 128 * ((i 0).val / 128) + 128
      omega
    · show 0 ≤ (i 1).val ∧ (i 1).val < 0 + 512
      omega

/-- The slot of a landing buffer an element lies in. -/
def slotOf (i : S2x2x128x512.Idx) : Fin 4 :=
  ⟨2 * (i 0).val + (i 1).val, by
    have h : (i 0).val < 2 := (i 0).isLt
    have h' : (i 1).val < 2 := (i 1).isLt
    omega⟩

/-- An element lies in a slot exactly if that is the slot its first two coordinates name. -/
theorem mem_slot {k : Fin 4} {i : S2x2x128x512.Idx} : i ∈ (slot k).set ↔ slotOf i = k := by
  have i0 : (i 0).val < 2 := (i 0).isLt
  have i1 : (i 1).val < 2 := (i 1).isLt
  have i2 : (i 2).val < 128 := (i 2).isLt
  have i3 : (i 3).val < 512 := (i 3).isLt
  rw [Rect.mem_set_unit]
  constructor
  · intro h
    have h0 : k.val / 2 ≤ (i 0).val ∧ (i 0).val < k.val / 2 + 1 := h 0
    have h1 : k.val % 2 ≤ (i 1).val ∧ (i 1).val < k.val % 2 + 1 := h 1
    refine Fin.ext ?_
    show 2 * (i 0).val + (i 1).val = k.val
    omega
  · rintro rfl a
    fin_cases a
    · show (2 * (i 0).val + (i 1).val) / 2 ≤ (i 0).val ∧ (i 0).val < (2 * (i 0).val + (i 1).val) / 2 + 1
      omega
    · show (2 * (i 0).val + (i 1).val) % 2 ≤ (i 1).val ∧ (i 1).val < (2 * (i 0).val + (i 1).val) % 2 + 1
      omega
    · show 0 ≤ (i 2).val ∧ (i 2).val < 0 + 128
      omega
    · show 0 ≤ (i 3).val ∧ (i 3).val < 0 + 512
      omega

/-- Rectangles told apart by a function that names the one an index lies in are disjoint -/
theorem disjoint_of_name {s : Shape} {r : Fin 4 → Rect s} {f : s.Idx → Fin 4}
    (h : ∀ {k i}, i ∈ (r k).set ↔ f i = k) (k k' : Fin 4) (hk : k ≠ k') : Disjoint (r k).set (r k').set :=
  Finset.disjoint_left.mpr fun _ hi hi' => hk ((h.mp hi).symm.trans (h.mp hi'))

/-- and together cover the shape. -/
theorem cover_of_name {s : Shape} {r : Fin 4 → Rect s} {f : s.Idx → Fin 4}
    (h : ∀ {k i}, i ∈ (r k).set ↔ f i = k) : (Finset.univ : Finset (Fin 4)).biUnion (fun k => (r k).set) = Finset.univ :=
  Finset.eq_univ_iff_forall.mpr fun i => Finset.mem_biUnion.mpr ⟨f i, Finset.mem_univ _, h.mpr rfl⟩

/-- The rows of chunk `k` lie in chunk `k`. -/
theorem chunkOf_rows (k : Fin 4) (j : S128x512.Idx) : chunkOf ((rows k).emb j) = k :=
  mem_rows.mp (Rect.map_emb_univ (r := rows k) ▸ Finset.mem_map_of_mem _ (Finset.mem_univ j))

/-! ## Values -/

section Values

variable {F : FTy → Type} [FloatOps F]
variable (x : Dev nD → S1x512x512.Idx → F .bf16)

/-- An index of the 512×512 block as an index of the block with its unit axis in front. -/
abbrev front (i : S512x512.Idx) : S1x512x512.Idx := Fin.cons ⟨0, Nat.one_pos⟩ i

/-- The running sum on device `c` before stage `n`: its own block, then in every stage the running sum of the device
    the row is exchanged with added to it. -/
def acc : ℕ → Dev nD → S512x512.Idx → F .bf16
  | 0, c, i => x c (front i)
  | n + 1, c, i => FloatOps.addf (acc n c i) (acc n (peer n (chunkOf i) c) i)

/-- Chunk `k` of it. -/
def part (n : ℕ) (k : Fin 4) (c : Dev nD) : S128x512.Idx → F .bf16 := fun j => acc x n c ((rows k).emb j)

/-- A stage adds to a chunk the chunk of the device it is exchanged with. -/
theorem part_succ (n : ℕ) (k : Fin 4) (c : Dev nD) :
    part x (n + 1) k c = addf (part x n k c) (part x n k (peer n k c)) := by
  funext j
  show FloatOps.addf _ (acc x n (peer n (chunkOf ((rows k).emb j)) c) _) = _
  rw [chunkOf_rows]
  rfl

omit [FloatOps F] in
/-- The input's rows of a chunk, their unit axis dropped, are the chunk before any stage. -/
theorem emb_front (k : Fin 4) (j : S128x512.Idx) :
    (xrows k).emb (Fin.cons ⟨0, Nat.one_pos⟩ j : S1x128x512.Idx) = front ((rows k).emb j) := by
  funext a
  fin_cases a <;> rfl

/-- Before any stage a chunk holds the input's rows. -/
theorem part_zero (k : Fin 4) (c : Dev nD) :
    shapeCast S128x512 (fun j : S1x128x512.Idx => x c ((xrows k).emb j)) shapeCasts_S1x128x512_S128x512 = part x 0 k c := by
  funext j
  show x c ((xrows k).emb (Shape.reshapeEquiv _ j)) = x c (front ((rows k).emb j))
  rw [← emb_front]
  congr 2
  exact Shape.reshapeEquiv_cons_one _ j

end Values

end Cert.AllReduce

end
-- ==== Proof.Protocol.lean ====
/-
# The exchange protocol

What the devices promise one another, as one schedule of the rounds library. Every semaphore is used for one round.

* A device's barrier semaphore is signalled once by each partner. A partner's signal hands over the slots of its
  landing buffers this device may write.
* A chunk's send semaphore is paid when the chunk has left: the chunk comes back unchanged.
* A chunk's receive semaphore is paid when the partner's chunk has landed: its slot comes back holding that chunk.

Beside the schedule stand each device's dues at launch and the levels that keep waits from going round in a circle:
the barrier lies below the first stage's receives, those below the second stage's, and sends at the bottom.
-/
module

public import proofs.«01_k».proof.Proof.Data

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Ghost state: the pipeline library's rounds beside the exchange's -/

/-- The exchange's rounds: each semaphore's duties are named by a side. -/
abbrev UX : Type := URounds (GSem nD τ sig) Bool
/-- Both libraries' rounds together. -/
abbrev UU : Type := UR sig nD τ × UX

local notation "𝕄" => MT nD τ sig Unit (Elt F) ℕ UU ℕ

/-- Where the pipeline's rounds live in the ghost state, -/
abbrev EP : Emb (UR sig nD τ) (MT nD τ sig Unit (Elt F) ℕ UU ℕ) := embL
/-- and where the exchange's do. -/
abbrev EX : Emb UX (MT nD τ sig Unit (Elt F) ℕ UU ℕ) := embR

/-- A memref of device `c` owned whole, holding `X`. -/
abbrev holds {s : Shape} {e : EltTy} (c : Dev nD) (M : Memref sig .tc .vmem s e) (X : s.Idx → Elt F e) : sProp 𝕄 :=
  owns (c : Thread nD τ) M fullShare X

/-! ## The amount a transfer of one chunk moves -/

/-- What a transfer of one chunk pays. -/
abbrev N : ℕ := (inM 0 0).view.dmaCredit
/-- It is not nothing. -/
theorem N_pos : 0 < N := View.dmaCredit_pos _ (by decide)

/-- It is the same for every stage and chunk. -/
theorem credit_in (st : Fin 2) (k : Fin 4) : (inM st k).view.dmaCredit = N := by
  fin_cases st <;> rfl

/-! ## The schedule -/

/-- Which stage a transfer's semaphore belongs to. -/
def stageOf (q : DmaSem sig) : Fin 2 := ⟨(q.val - 2) / 8 % 2, Nat.mod_lt _ (by decide)⟩
/-- Which chunk a transfer's semaphore belongs to. -/
def indexOf (q : DmaSem sig) : Fin 4 := ⟨(q.val - 2) % 4, Nat.mod_lt _ (by decide)⟩
/-- Whether it is the receiver's. -/
def isRecv (q : DmaSem sig) : Bool := (q.val - 2) / 4 % 2 == 1

/-- A sender's semaphore read back, -/
theorem sendS_parts : ∀ st k, 2 ≤ (sendS st k).val ∧ stageOf (sendS st k) = st ∧ indexOf (sendS st k) = k ∧ isRecv (sendS st k) = false := by
  decide
/-- and a receiver's. -/
theorem recvS_parts : ∀ st k, 2 ≤ (recvS st k).val ∧ stageOf (recvS st k) = st ∧ indexOf (recvS st k) = k ∧ isRecv (recvS st k) = true := by
  decide

/-- The stage in which chunk `k` is exchanged on side `b`. -/
def stageAt (b : Bool) (k : Fin 4) : Fin 2 := if side 0 k = b then 0 else 1

/-- The slots of device `d`'s landing buffers that its partner on side `b` writes, at any contents. -/
def landing (b : Bool) (d : Dev nD) : sProp 𝕄 :=
  bigSep Finset.univ fun k : Fin 4 => iprop(∃ X, holds d (inM (stageAt b k) k) X)

variable (x : Dev nD → S1x512x512.Idx → F .bf16)

/-- What completing a transfer hands the device that waits: a sender its chunk, a receiver the partner's. -/
def moved (q : DmaSem sig) (c : Dev nD) : sProp 𝕄 :=
  if isRecv q then holds c (inM (stageOf q) (indexOf q)) (part x (stageOf q).val (indexOf q) (peer (stageOf q).val (indexOf q) c))
  else holds c (outM (indexOf q)) (part x (stageOf q).val (indexOf q) c)

/-- The schedule: round 0 only; two duties on a barrier semaphore, one on each transfer semaphore. -/
def sched : Rounds.Schedule (GSem nD τ sig) Bool 𝕄 where
  duties g r :=
    if r = 0 ∧ g.1.2 = .tc then
      match g.2 with
      | .reg s => if s = barS then Finset.univ else ∅
      | .dma q => if 2 ≤ q.val then {false} else ∅
    else ∅
  unitless _ := False
  amount g _ _ := match g.2 with | .reg _ => 1 | .dma _ => N
  payload g _ b := match g.2 with | .reg _ => landing b (partner b g.1.1) | .dma q => moved x q g.1.1
  amount_pos g _ _ _ := by
    rcases g with ⟨c, s | q⟩
    · exact Nat.one_pos
    · exact N_pos

/-- What a duty hands over may be kept in an invariant. -/
instance sched_payload_storable (g : GSem nD τ sig) (r : ℕ) (b : Bool) :
    BI.Storable (upEmb : UEmb _ 𝕄) ((sched (F := F) x).payload g r b) := by
  rcases g with ⟨c, s | q⟩
  · show BI.Storable upEmb (landing b (partner b c.1))
    unfold landing; infer_instance
  · show BI.Storable upEmb (moved x q c.1)
    unfold moved; split <;> infer_instance

section Sched
variable (c : Dev nD) (st : Fin 2) (k : Fin 4)

/-- The duties of each kind of semaphore: one per partner at the barrier, -/
theorem duties_bar : (sched (F := F) x).duties (barCell c) 0 = Finset.univ := rfl
/-- one at a sender's, -/
theorem duties_send : (sched (F := F) x).duties (sendCell st k c) 0 = {false} :=
  if_pos (sendS_parts st k).1
/-- one at a receiver's, -/
theorem duties_recv : (sched (F := F) x).duties (recvCell st k c) 0 = {false} :=
  if_pos (recvS_parts st k).1
/-- and none after round 0. -/
theorem duties_later (g : GSem nD τ sig) : ∀ r, 1 ≤ r → (sched (F := F) x).duties g r = ∅ :=
  fun r hr => if_neg fun h => by omega

/-- What a wait for the round takes: two units at the barrier, -/
theorem expect_bar : (sched (F := F) x).expect (barCell c) 0 = 2 := rfl
/-- a transfer's credit at a sender's, -/
theorem expect_send : (sched (F := F) x).expect (sendCell st k c) 0 = N := by
  unfold Schedule.expect Schedule.amountOf; rw [duties_send, Finset.sum_singleton]; rfl
/-- and at a receiver's. -/
theorem expect_recv : (sched (F := F) x).expect (recvCell st k c) 0 = N := by
  unfold Schedule.expect Schedule.amountOf; rw [duties_recv, Finset.sum_singleton]; rfl

/-- A sender gets its chunk back; -/
theorem payload_send (b : Bool) : (sched (F := F) x).payload (sendCell st k c) 0 b = holds c (outM k) (part x st.val k c) := by
  obtain ⟨-, h1, h2, h3⟩ := sendS_parts st k
  show moved x (sendS st k) c = _
  unfold moved; rw [h1, h2, h3]; rfl
/-- a receiver gets its slot, holding the partner's chunk. -/
theorem payload_recv (b : Bool) :
    (sched (F := F) x).payload (recvCell st k c) 0 b = holds c (inM st k) (part x st.val k (peer st.val k c)) := by
  obtain ⟨-, h1, h2, h3⟩ := recvS_parts st k
  show moved x (recvS st k) c = _
  unfold moved; rw [h1, h2, h3]; rfl

/-- What a whole round of the barrier hands over: the slots of both partners this device may write. -/
theorem rest_bar : bigSep ((sched (F := F) x).duties (barCell c) 0 \ ∅) (fun b => (sched (F := F) x).payload (barCell c) 0 b)
    = iprop(landing true (partner true c) ∗ landing false (partner false c)) := by
  rw [Finset.sdiff_empty, duties_bar, bigSep_univ_eq_bigSepL [true, false] (by decide) (by decide)]
  rfl
/-- A sender's whole round, -/
theorem rest_send : bigSep ((sched (F := F) x).duties (sendCell st k c) 0 \ ∅) (fun b => (sched (F := F) x).payload (sendCell st k c) 0 b)
    = holds c (outM k) (part x st.val k c) := by
  rw [Finset.sdiff_empty, duties_send, bigSep_singleton, payload_send]
/-- and a receiver's. -/
theorem rest_recv : bigSep ((sched (F := F) x).duties (recvCell st k c) 0 \ ∅) (fun b => (sched (F := F) x).payload (recvCell st k c) 0 b)
    = holds c (inM st k) (part x st.val k (peer st.val k c)) := by
  rw [Finset.sdiff_empty, duties_recv, bigSep_singleton, payload_recv]

end Sched

/-! ## Dues and levels -/

/-- The receive credit device `c` owes for the transfers in a list, the first the first to be paid. -/
def due (c : Dev nD) : List (Fin 2 × Fin 4) → CellTallies nD τ sig Unit
  | [] => 0
  | p :: l => due c l + tallyAt (recvCell p.1 p.2 (peer p.1.val p.2 c)) () N

/-- The transfers of a stage in the order they are started. -/
def stageList (st : Fin 2) : List (Fin 2 × Fin 4) := [(st, 0), (st, 2), (st, 1), (st, 3)]
/-- All transfers in the order they are started. -/
def allList : List (Fin 2 × Fin 4) := stageList 0 ++ stageList 1

/-- What a device owes at launch: every transfer, and a unit to each partner's barrier. -/
def dues (c : Dev nD) : CellTallies nD τ sig Unit :=
  due c allList + tallyAt (barCell (partner false c)) () 1 + tallyAt (barCell (partner true c)) () 1

/-- The levels are of TensorCore semaphores; -/
def L (g : GSem nD τ sig) : Finset Unit := if g.1.2 = .tc then {()} else ∅
/-- a semaphore's level. -/
def lv (g : GSem nD τ sig) (_ : Unit) : ℕ :=
  match g.2 with
  | .reg _ => 1
  | .dma q => if 2 ≤ q.val ∧ isRecv q then 2 + (stageOf q).val else 0

/-- other semaphores have none. -/
theorem L_of_ne (g : GSem nD τ sig) (h : g.1.2 ≠ .tc) : L g = ∅ := if_neg h
/-- A receiver's level grows with the stage; -/
theorem lv_recv (st : Fin 2) (k : Fin 4) (c : Dev nD) : lv (recvCell st k c) () = 2 + st.val := by
  obtain ⟨h0, h1, -, h3⟩ := recvS_parts st k
  show (if 2 ≤ (recvS st k).val ∧ isRecv (recvS st k) then 2 + (stageOf (recvS st k)).val else 0) = _
  rw [if_pos ⟨h0, h3⟩, h1]
/-- a sender's is the lowest. -/
theorem lv_send (st : Fin 2) (k : Fin 4) (c : Dev nD) : lv (sendCell st k c) () = 0 := by
  obtain ⟨-, -, -, h3⟩ := sendS_parts st k
  show (if 2 ≤ (sendS st k).val ∧ isRecv (sendS st k) then 2 + (stageOf (sendS st k)).val else 0) = _
  rw [h3]; exact if_neg fun h => Bool.false_ne_true h.2

/-- Everything owed in `O` is on a TensorCore's cell of level above `n`. -/
def Above (n : ℕ) (O : CellTallies nD τ sig Unit) : Prop := ∀ g u, 0 < O g u → g.1.2 = .tc ∧ n < lv g u

/-- Nothing owed is above any level, -/
theorem above_zero (n : ℕ) : Above n 0 := fun g u h => absurd h (Nat.lt_irrefl 0)
/-- a sum is above what both parts are above, -/
theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
/-- a debt is above what its semaphore is above, -/
theorem above_tallyAt {n : ℕ} {c : Dev nD} {s : SemLoc sig} {i : ℕ} (h : n < lv ((c : Thread nD τ), s) ()) :
    Above n (tallyAt ((c : Thread nD τ), s) () i) := fun g u hg => by
  rw [tallyAt_apply] at hg
  by_cases hgu : g = ((c : Thread nD τ), s) ∧ u = ()
  · obtain ⟨rfl, rfl⟩ := hgu; exact ⟨rfl, h⟩
  · rw [if_neg hgu] at hg; exact absurd hg (Nat.lt_irrefl 0)
/-- transfers are above what their stages are above, -/
theorem above_due {n : ℕ} (c : Dev nD) : ∀ l : List (Fin 2 × Fin 4), (∀ p ∈ l, n < 2 + p.1.val) → Above n (due c l)
  | [], _ => above_zero n
  | p :: l, h => above_add (above_due c l fun q hq => h q (List.mem_cons_of_mem _ hq))
      (above_tallyAt (by rw [lv_recv]; exact h p List.mem_cons_self))
/-- and all a device owes at launch is above the lowest level. -/
theorem above_dues (c : Dev nD) : Above 0 (dues c) :=
  above_add (above_add (above_due c _ fun _ _ => by omega) (above_tallyAt Nat.one_pos)) (above_tallyAt Nat.one_pos)

omit [FloatOps F] in
/-- A device may wait on a semaphore whose level everything it owes lies above. -/
theorem mayWait (c : Dev nD) (s : SemLoc sig) (n : ℕ) (O : CellTallies nD τ sig Unit) (hs : lv ((c : Thread nD τ), s) () ≤ n) (hO : Above n O) :
    (levAts L lv : sProp 𝕄) ⊢ MayWait (c : Thread nD τ) s () O :=
  MayOwe.of_cut (L := L) (lev := lv) n
    (fun p hp => by rw [Finset.mem_singleton.mp hp]; exact Finset.mem_singleton_self ())
    (fun g u hg => by unfold L; rw [if_pos (hO g u hg).1]; exact Finset.mem_singleton_self ())
    (fun p hp => by rw [Finset.mem_singleton.mp hp]; exact hs)
    (fun g u hg => (hO g u hg).2)

end Cert.AllReduce

end
-- ==== Proof.Steps.lean ====
/-
# The steps of the kernel

The kernel's body repeats four steps: copying a chunk of the input, signalling a partner, starting a chunk's transfer,
and finishing one (waiting for both its ends and adding what arrived). Each is proved here once, for every device,
stage and chunk.
-/
module

public import proofs.«01_k».proof.Proof.Protocol

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- No loop needs a measure. -/
abbrev noVariants : Variants := Variants.none

/-- Device `c` may run `P` and end in `Q`. -/
abbrev runs {α : Type} (c : Dev nD) (P : Prog (TpuEff nD τ sig (Elt F) Λ₀ .tc) α) (Q : α → sProp 𝕄) : sProp 𝕄 :=
  wp frame (wpE (defs₀ (F := F)) noVariants (c : Thread nD τ) none) Set.univ P Q

variable (x : Dev nD → S1x512x512.Idx → F .bf16)

/-! ## What every device knows -/

/-- A device's semaphores of the exchange: a transfer's (`true` for the receiver's) or the barrier. -/
abbrev Slot : Type := (Bool × Fin 2 × Fin 4) ⊕ Unit
/-- The semaphore itself, -/
def semAt : Slot → SemLoc sig
  | .inl (false, st, k) => .dma (sendS st k)
  | .inl (true, st, k) => .dma (recvS st k)
  | .inr () => .reg barS
/-- and on a device. -/
abbrev cellAt (di : Dev nD × Slot) : GSem nD τ sig := ((di.1 : Thread nD τ), semAt di.2)

/-- A semaphore follows the schedule, and round 0 of it is open. -/
def known (g : GSem nD τ sig) : sProp 𝕄 := iprop(∃ κ : ℕ, cellInv EX (sched x) κ g ∗ reached EX g 0)

/-- What is known of a semaphore stays known. -/
instance known_persistent (g : GSem nD τ sig) : BI.Persistent (known x g) := by unfold known; infer_instance

/-- Every semaphore of the exchange follows the schedule, and the levels are fixed. -/
def agreed : sProp 𝕄 := iprop((bigSep Finset.univ fun di : Dev nD × Slot => known x (cellAt di)) ∗ levAts L lv)

/-- What all devices know stays known. -/
instance agreed_persistent : BI.Persistent (agreed x) := by unfold agreed; infer_instance

/-- So each semaphore follows it. -/
theorem agreed_known (di : Dev nD × Slot) : agreed x ⊢ known x (cellAt di) := by
  unfold agreed
  exact (BI.sep_and.trans BI.and_elimL).trans (bigSep_elim (Finset.mem_univ di))

/-- A device may wait on a semaphore whose level everything it owes lies above. -/
theorem agreed_mayWait (c : Dev nD) (s : SemLoc sig) (n : ℕ) (O : CellTallies nD τ sig Unit)
    (hs : lv ((c : Thread nD τ), s) () ≤ n) (hO : Above n O) : agreed x ⊢ MayWait (c : Thread nD τ) s () O := by
  unfold agreed
  iintro ⟨-, H⟩
  iapply (mayWait c s n O hs hO); iexact H

/-- Device `c` owes `O`, whatever it has waited on so far. -/
def owing (c : Dev nD) (O : CellTallies nD τ sig Unit) : sProp 𝕄 := iprop(∃ W, owes (c : Thread nD τ) O W)

/-- At the end of a semaphore's round its count is zero for good. -/
theorem close (g : GSem nD τ sig) : iprop(known x g ∗ atPos EX g (0 + 1) ∅ 0) ⊢ |={Set.univ}=> semVal g 0 := by
  unfold known
  iintro ⟨⟨%κ, HI, -⟩, Hat⟩
  iapply (Rounds.cell_close EX (sched x) (Set.mem_univ κ) (fun h => h) (R := 0 + 1) (duties_later x g))
  isplitl [HI] <;> iassumption

/-! ## Signals and the barrier -/

/-- Signalling a partner: what it is to write here is handed over. -/
theorem step_signal (b : Bool) (c d : Dev nD) (hd : d = partner b c) (O : CellTallies nD τ sig Unit)
    {α : Type} {Q : α → sProp 𝕄} {kont : PUnit → Prog (TpuEff nD τ sig (Elt F) Λ₀ .tc) α} :
    iprop(agreed x ∗ owing c (O + tallyAt (barCell (partner b c)) () 1) ∗ dutyTok EX (barCell (partner b c)) 0 b ∗ landing b c)
      ⊢ iprop((owing c O -∗ runs c (kont ⟨⟩) Q) -∗ runs c (.op (.semSignal (d : Thread nD τ) barS 1) kont) Q) := by
  subst hd
  unfold owing
  iintro ⟨#HA, ⟨%W, HO⟩, Ht, Hl⟩ Hk
  ihave #HB := (agreed_known x (partner b c, .inr ())) $$ HA
  unfold known
  icases HB with ⟨%κ, #HI, #Hr⟩
  iapply (Rounds.wp_signal noVariants EX (sched x) (c : Thread nD τ) none (dst := (partner b c : Thread nD τ)) (κ := κ) (d := b)
    (sem := barS) (k' := 1) (r := 0) (by rw [duties_bar]; exact Finset.mem_univ b) rfl () O rfl) $$ [HO Ht Hl]
  · isplitr; · iexact HI
    isplitl [HO]; · iexact HO
    isplitl [Ht]; · iexact Ht
    isplitl [Hl]
    · iapply (Entails.of_eq (show landing b c = (sched (F := F) x).payload (barCell (partner b c)) 0 b by
        show _ = landing b (partner b (partner b c)); rw [partner_partner]))
      iexact Hl
    · iexact Hr
  iintro HO
  iapply Hk
  iexists W; iexact HO

/-- Waiting at the barrier: both partners' slots arrive, and the barrier's count is zero again. -/
theorem step_barrier (c : Dev nD) (O : CellTallies nD τ sig Unit) (hO : Above 1 O)
    {α : Type} {Q : α → sProp 𝕄} {kont : PUnit → Prog (TpuEff nD τ sig (Elt F) Λ₀ .tc) α} :
    iprop(agreed x ∗ owing c O ∗ cred (tallyAt (barCell c) () 2) ∗ atPos EX (barCell c) 0 ∅ 0)
      ⊢ iprop(((owing c O ∗ semVal (barCell c) 0 ∗ landing true (partner true c) ∗ landing false (partner false c)) -∗ runs c (kont ⟨⟩) Q)
        -∗ runs c (.op (.semWait barS 2) kont) Q) := by
  unfold owing
  iintro ⟨#HA, ⟨%W, HO⟩, Hc, Hat⟩ Hk
  ihave #HB := (agreed_known x (c, .inr ())) $$ HA
  unfold known
  icases HB with ⟨%κ, #HI, #Hr⟩
  iapply (Rounds.wp_wait_rest_token noVariants EX (sched x) (c : Thread nD τ) none (κ := κ)
    (wpE_semWait_eq noVariants (c : Thread nD τ) none Set.univ) (Set.mem_univ _) () (O := O) (W := W) (R := 0) (m := 0) (T := ∅)
    (by rw [expect_bar])) $$ [HO Hc Hat]
  · isplitr; · iexact HI
    isplitl [Hc]; · iexact Hc
    isplitl [HO]; · iexact HO
    isplitr; · iapply (agreed_mayWait x c (.reg barS) 1 O le_rfl hO); iexact HA
    iexact Hat
  iintro ⟨HO, Hat, -, Hpay⟩
  ihave Hl := (Entails.of_eq (rest_bar x c)) $$ Hpay
  icases Hl with ⟨Ht, Hf⟩
  imod (close x (barCell c)) $$ [Hat] with Hz
  · isplitr; · iapply (agreed_known x (c, .inr ())); iexact HA
    iexact Hat
  iapply Hk
  isplitl [HO]; · iexists _; iexact HO
  isplitl [Hz]; · iexact Hz
  isplitl [Ht] <;> iassumption

/-! ## Chunks in memory -/

/-- A slot read as a chunk has the slot's elements. -/
theorem set_in (st : Fin 2) (k : Fin 4) : (inM st k).view.set = ((landM st).access (slot k)).set := View.set_reshape _ _

/-- Storing a chunk of the output. -/
theorem step_store (c : Dev nD) (k : Fin 4) (v X : S128x512.Idx → F .bf16)
    {hx : (oM.access (rows k)).Stores Finset.univ} {hm : (Finset.univ : Finset (rows k).shape.Idx) = Finset.univ ∨ ∀ a, (rows k).stride a = 1}
    {α : Type} {Q : α → sProp 𝕄} {kont : PUnit → Prog (TpuEff nD τ sig (Elt F) Λ₀ .tc) α} :
    holds c (outM k) X
      ⊢ iprop((holds c (outM k) v -∗ runs c (kont ⟨⟩) Q) -∗ runs c (.op (.store oM (rows k) v Finset.univ hx hm) kont) Q) := by
  unfold holds owns
  iintro ⟨%f, -, H⟩ Hk
  iapply (wp_store noVariants (c : Thread nD τ) none Set.univ (m := oM) (r := rows k) (w := v) (Mk := Finset.univ) (f := f)
    (S := (outM k).view.set) (View.setOn_univ _).subset) $$ H
  iintro H
  iapply Hk
  iexists _
  isplitr
  · ipureintro; exact View.read_write_univ (v := (outM k).view) f v
  · iexact H

/-- Loading a chunk of the output. -/
theorem step_load (c : Dev nD) (k : Fin 4) (X : S128x512.Idx → F .bf16) {hl : (oM : Memref sig .tc .vmem S512x512 .bf16).view.LoadsAt (rows k).toLoadRect}
    {α : Type} {Q : α → sProp 𝕄} {kont : (S128x512.Idx → Elt F .bf16) → Prog (TpuEff nD τ sig (Elt F) Λ₀ .tc) α} :
    holds c (outM k) X
      ⊢ iprop((holds c (outM k) X -∗ runs c (kont X) Q) -∗ runs c (.op (.load oM (rows k).toLoadRect hl) kont) Q) := by
  unfold holds owns
  iintro ⟨%f, %hf, H⟩ Hk
  subst hf
  iapply (wp_load_rect noVariants (c : Thread nD τ) none Set.univ (m := oM) (r := rows k) (f := f)
    (S := (outM k).view.set) subset_rfl) $$ H
  iintro H
  iapply Hk
  iexists f
  isplitr
  · ipureintro; rfl
  · iexact H

/-- Loading a landed chunk; its value is the slot's, the two unit axes dropped. -/
theorem step_load_in (c : Dev nD) (st : Fin 2) (k : Fin 4) (X : S128x512.Idx → F .bf16) {hl : (landM st).view.LoadsAt (slot k).toLoadRect}
    {α : Type} {Q : α → sProp 𝕄} {kont : (S1x1x128x512.Idx → Elt F .bf16) → Prog (TpuEff nD τ sig (Elt F) Λ₀ .tc) α} :
    holds c (inM st k) X
      ⊢ iprop((∀ w, ⌜shapeCast S128x512 w shapeCasts_S1x1x128x512_S128x512 = X⌝ -∗ holds c (inM st k) X -∗ runs c (kont w) Q)
        -∗ runs c (.op (.load (landM st) (slot k).toLoadRect hl) kont) Q) := by
  unfold holds owns
  iintro ⟨%f, %hf, H⟩ Hk
  subst hf
  iapply (wp_load_rect noVariants (c : Thread nD τ) none Set.univ (m := landM st) (r := slot k) (f := f)
    (S := (inM st k).view.set) (set_in st k).symm.subset) $$ H
  iintro H
  iapply Hk $$ %(((landM st).access (slot k)).read (Elt F) f) [] [H]
  · ipureintro; rfl
  · iexists f
    isplitr
    · ipureintro; rfl
    · iexact H

/-- Copying a chunk of the input block to the output. -/
theorem step_copy (c : Dev nD) (k : Fin 4) (pay : (S1x128x512.Idx → Elt F .bf16) → S128x512.Idx → Elt F .bf16)
    (hpay : ∀ v, pay v = shapeCast S128x512 v shapeCasts_S1x128x512_S128x512)
    {hl : (xM : Memref sig .tc .vmem S1x512x512 .bf16).view.LoadsAt (xrows k).toLoadRect}
    {hl' : (oM : Memref sig .tc .vmem S512x512 .bf16).view.LoadsAt (rows k).toLoadRect}
    {hx : (oM.access (rows k)).Stores Finset.univ} {hm : (Finset.univ : Finset (rows k).shape.Idx) = Finset.univ ∨ ∀ a, (rows k).stride a = 1}
    {α : Type} {Q : α → sProp 𝕄} {kont : PUnit → Prog (TpuEff nD τ sig (Elt F) Λ₀ .tc) α} :
    iprop(holds c xM (x c) ∗ ∃ X, holds c (outM k) X)
      ⊢ iprop(((holds c xM (x c) ∗ holds c (outM k) (part x 0 k c)) -∗ runs c (kont ⟨⟩) Q)
        -∗ runs c (.op (.load xM (xrows k).toLoadRect hl) fun v => .op (.load oM (rows k).toLoadRect hl') fun _ =>
            .op (.store oM (rows k) (pay v) Finset.univ hx hm) kont) Q) := by
  iintro ⟨Hx, ⟨%X, Ho⟩⟩ Hk
  ihave Hx' := (show holds c xM (x c) ⊢ iprop(∃ f, ⌜xM.view.read (Elt F) f = x c⌝ ∗ (xM.view.loc (c : Thread nD τ) ↦[xM.view.set]{fullShare} f)) from .rfl) $$ Hx
  icases Hx' with ⟨%f, %hf, Hx⟩
  iapply (wp_load_rect noVariants (c : Thread nD τ) none Set.univ (m := xM) (r := xrows k) (f := f)
    (S := xM.view.set) (View.set_slice_subset _ _)) $$ Hx
  iintro Hx
  iapply (step_load c k X) $$ Ho
  iintro Ho
  iapply (step_store c k _ X) $$ Ho
  iintro Ho
  iapply Hk
  isplitl [Hx]
  · iapply (show iprop(∃ f, ⌜xM.view.read (Elt F) f = x c⌝ ∗ (xM.view.loc (c : Thread nD τ) ↦[xM.view.set]{fullShare} f)) ⊢ holds c xM (x c) from .rfl)
    iexists f
    isplitr
    · ipureintro; exact hf
    · iexact Hx
  · rw [hpay]
    iapply (Entails.of_eq (congrArg (holds c (outM k)) ((congrArg (fun y : S1x512x512.Idx → F .bf16 => shapeCast S128x512 (fun j : S1x128x512.Idx => y ((xrows k).emb j)) shapeCasts_S1x128x512_S128x512) hf).trans (part_zero x k c))))
    iexact Ho

/-! ## A chunk's transfer -/

/-- The tokens a device needs to start a transfer: its own send's and its partner's receive's. -/
def ticket (st : Fin 2) (k : Fin 4) (c : Dev nD) : sProp 𝕄 :=
  iprop(dutyTok EX (sendCell st k c) 0 false ∗ dutyTok EX (recvCell st k (peer st.val k c)) 0 false)

/-- Every transfer semaphore counts a chunk's credit. -/
theorem amount_dma (c : Dev nD) (q : DmaSem sig) (b : Bool) : (sched (F := F) x).amount ((c : Thread nD τ), .dma q) 0 b = N := rfl
/-- Owing a list is owing its first transfer and the rest. -/
theorem due_cons (c : Dev nD) (p : Fin 2 × Fin 4) (l : List (Fin 2 × Fin 4)) :
    due c (p :: l) = due c l + tallyAt (recvCell p.1 p.2 (peer p.1.val p.2 c)) () N := rfl

/-- The sender gets its own chunk back once it has left. -/
theorem sent (c : Dev nD) (st : Fin 2) (k : Fin 4) (b : Bool) (f : Buf (Elt F) ((outM k).view.loc (c : Thread nD τ)))
    (hf : (outM k).view.read (Elt F) f = part x st.val k c) :
    ((outM k).view.loc (c : Thread nD τ) ↦[(outM k).view.set]{fullShare} f) ⊢ (sched x).payload (sendCell st k c) 0 b := by
  rw [payload_send]
  unfold holds owns
  iintro H
  iexists f
  isplitr
  · ipureintro; exact hf
  · iexact H

/-- The receiver gets its slot, now holding the sender's chunk. -/
theorem landed (c : Dev nD) (st : Fin 2) (k : Fin 4) (b : Bool) (f : Buf (Elt F) ((inM st k).view.loc (peer st.val k c : Thread nD τ)))
    (w : S128x512.Idx → Elt F .bf16) (hw : w = part x st.val k c) :
    ((inM st k).view.loc (peer st.val k c : Thread nD τ) ↦[(inM st k).view.set]{fullShare} ((inM st k).view.write (Elt F) f w Finset.univ))
      ⊢ (sched x).payload (recvCell st k (peer st.val k c)) 0 b := by
  rw [payload_recv, peer_peer]
  unfold holds owns
  iintro H
  iexists _
  isplitr
  · ipureintro; exact (View.read_write_univ (v := (inM st k).view) f w).trans hw
  · iexact H

/-- Starting the transfer of a chunk to the partner of the stage. -/
theorem step_send (c d : Dev nD) (st : Fin 2) (k : Fin 4) (hd : d = peer st.val k c) (l : List (Fin 2 × Fin 4))
    {hsc : (inM st k : Memref sig (Dev.tc d : Thread nD τ).2.kind .vmem S128x512 .bf16).view.ref.isScScratch = false}
    {hsrc : (outM k).view.WordExact} {hdst : (inM st k : Memref sig (Dev.tc d : Thread nD τ).2.kind .vmem S128x512 .bf16).view.WordExact}
    {hsem : DmaTarget.Typed .vmem (.dma (recvS st k)) (.remote (Dev.tc d : Thread nD τ) (inM st k : Memref sig (Dev.tc d : Thread nD τ).2.kind .vmem S128x512 .bf16) (.dma (sendS st k)) hsc)}
    {α : Type} {Q : α → sProp 𝕄} {kont : PUnit → Prog (TpuEff nD τ sig (Elt F) Λ₀ .tc) α} :
    iprop(agreed x ∗ owing c (due c ((st, k) :: l)) ∗ ticket st k c ∗ holds c (outM k) (part x st.val k c)
        ∗ ∃ X, holds (peer st.val k c) (inM st k) X)
      ⊢ iprop(((owing c (due c l) ∗ cred (tallyAt (sendCell st k c) () N)) -∗ runs c (kont ⟨⟩) Q)
        -∗ runs c (.op (.enqueueDma (outM k) (.remote (Dev.tc d : Thread nD τ) (inM st k) (.dma (sendS st k)) hsc) (.dma (recvS st k)) hsrc hdst hsem) kont) Q) := by
  subst hd
  unfold owing ticket holds owns
  iintro ⟨#HA, ⟨%W, HO⟩, ⟨Hts, Htr⟩, ⟨%fs, %hfs, Hs⟩, ⟨%X, %fd, -, Hd⟩⟩ Hk
  ihave #HB := (agreed_known x (c, .inl (false, st, k))) $$ HA
  ihave #HB' := (agreed_known x (peer st.val k c, .inl (true, st, k))) $$ HA
  unfold known
  icases HB with ⟨%κ, #HI, #Hr⟩
  icases HB' with ⟨%κ', #HI', #Hr'⟩
  iapply (Rounds.wp_send_pointsTo noVariants EX (sched x) (c : Thread nD τ) none (κ₁ := κ) (κ₂ := κ') (r₁ := 0) (r₂ := 0) (d₁ := false) (d₂ := false)
    (c' := (Dev.tc (peer st.val k c) : Thread nD τ)) (q := fullShare) (fs := fs) (fd := fd) (src := outM k) (dst := inM st k) (hsc := hsc) (sS := .dma (sendS st k)) (sem := .dma (recvS st k))
    (hsrc := hsrc) (hdst := hdst) (hsem := hsem)
    (by rw [duties_send]; exact Finset.mem_singleton_self _) (by rw [duties_recv]; exact Finset.mem_singleton_self _) () () N
    (credit_in st k) (amount_dma x _ _ _) (amount_dma x _ _ _) (due c l) (due_cons c (st, k) l) (W := W) (Es := Set.univ)
    (sent x c st k false fs hfs) (landed x c st k false fd _ hfs)) $$ [HO Hts Htr Hs Hd]
  · isplitr; · iexact HI
    isplitr; · iexact HI'
    isplitl [Hs]; · iexact Hs
    isplitl [Hd]; · iexact Hd
    isplitl [HO]; · iexact HO
    isplitl [Hts]; · iexact Hts
    isplitr; · iexact Hr
    isplitl [Htr]; · iexact Htr
    iexact Hr'
  iintro ⟨Hc, HO⟩
  iapply Hk
  isplitl [HO]; · iexists W; iexact HO
  iexact Hc

/-- What a device needs to finish a transfer: its credits and its place at both the transfer's semaphores, here and at the sender. -/
def claim (st : Fin 2) (k : Fin 4) (c : Dev nD) : sProp 𝕄 :=
  iprop(cred (tallyAt (recvCell st k c) () N) ∗ atPos EX (sendCell st k c) 0 ∅ 0 ∗ atPos EX (recvCell st k c) 0 ∅ 0)

/-- A finished transfer leaves both its semaphores at zero, and the slot back with its owner. -/
def finished (st : Fin 2) (k : Fin 4) (c : Dev nD) : sProp 𝕄 :=
  iprop(semVal (sendCell st k c) 0 ∗ semVal (recvCell st k c) 0 ∗ ∃ X, holds c (inM st k) X)

/-- Waiting for all of a transfer semaphore's round: its payload arrives, and its count is zero again. -/
theorem step_await (c : Dev nD) (w : Bool) (st : Fin 2) (k : Fin 4) (q : DmaSem sig) (hq : semAt (.inl (w, st, k)) = .dma q)
    (n : ℕ) (hs : lv ((c : Thread nD τ), .dma q) () ≤ n) (O : CellTallies nD τ sig Unit) (hO : Above n O)
    (hR : (sched (F := F) x).expect ((c : Thread nD τ), .dma q) 0 = N) {s s' : Shape} {e e' : EltTy}
    {src : Memref sig .tc .vmem s e} {dst : Memref sig .tc .vmem s' e'} {hsrc : src.view.WordExact} {hdst : dst.view.WordExact}
    (hN : dst.view.dmaCredit = N)
    {α : Type} {Q : α → sProp 𝕄} {kont : PUnit → Prog (TpuEff nD τ sig (Elt F) Λ₀ .tc) α} :
    iprop(agreed x ∗ owing c O ∗ cred (tallyAt ((c : Thread nD τ), .dma q) () N) ∗ atPos EX ((c : Thread nD τ), .dma q) 0 ∅ 0)
      ⊢ iprop(((owing c O ∗ semVal ((c : Thread nD τ), .dma q) 0
            ∗ bigSep ((sched (F := F) x).duties ((c : Thread nD τ), .dma q) 0 \ ∅) (fun b => (sched (F := F) x).payload ((c : Thread nD τ), .dma q) 0 b))
          -∗ runs c (kont ⟨⟩) Q)
        -∗ runs c (.op (.waitDma2 q src dst hsrc hdst) kont) Q) := by
  have hk : agreed x ⊢ known x ((c : Thread nD τ), .dma q) := hq ▸ agreed_known x (c, .inl (w, st, k))
  unfold owing
  iintro ⟨#HA, ⟨%W, HO⟩, Hc, Hat⟩ Hk
  ihave #HB := hk $$ HA
  unfold known
  icases HB with ⟨%κ, #HI, -⟩
  iapply (Rounds.wp_wait_rest_token noVariants EX (sched x) (c : Thread nD τ) none (κ := κ)
    (wpE_waitDma2_eq noVariants (c : Thread nD τ) none Set.univ) (Set.mem_univ _) () (O := O) (W := W) (R := 0) (m := 0) (T := ∅)
    (by rw [hR, hN, Nat.zero_add])) $$ [HO Hc Hat]
  · isplitr; · iexact HI
    isplitl [Hc]; · iapply (Entails.of_eq (by rw [hN])); iexact Hc
    isplitl [HO]; · iexact HO
    isplitr; · iapply (agreed_mayWait x c (.dma q) n O hs hO); iexact HA
    iexact Hat
  iintro ⟨HO, Hat, -, Hpay⟩
  imod (close x ((c : Thread nD τ), .dma q)) $$ [Hat] with Hz
  · isplitr; · iapply hk; iexact HA
    iexact Hat
  iapply Hk
  isplitl [HO]; · iexists _; iexact HO
  isplitl [Hz] <;> iassumption

/-- Finishing a chunk's transfer: waiting for both its ends and adding what arrived to what was sent. -/
theorem step_finish (c : Dev nD) (st : Fin 2) (k : Fin 4) (l : List (Fin 2 × Fin 4)) (hl : ∀ p ∈ l, st.val < p.1.val)
    (pay : (S128x512.Idx → Elt F .bf16) → (S1x1x128x512.Idx → Elt F .bf16) → S128x512.Idx → Elt F .bf16)
    (hpay : ∀ v w, pay v w = addf (shapeCast S128x512 v shapeCasts_S128x512_S128x512) (shapeCast S128x512 w shapeCasts_S1x1x128x512_S128x512))
    {s s' : Shape} {e e' : EltTy} {src : Memref sig .tc .vmem s e} {dst : Memref sig .tc .vmem s' e'} {hsrc : src.view.WordExact} {hdst : dst.view.WordExact}
    (hN : dst.view.dmaCredit = N)
    {t t' : Shape} {i i' : EltTy} {src' : Memref sig .tc .vmem t i} {dst' : Memref sig .tc .vmem t' i'} {hsrc' : src'.view.WordExact} {hdst' : dst'.view.WordExact}
    (hN' : dst'.view.dmaCredit = N)
    {h₁ h₃ : (oM : Memref sig .tc .vmem S512x512 .bf16).view.LoadsAt (rows k).toLoadRect} {h₂ : (landM st).view.LoadsAt (slot k).toLoadRect}
    {hx : (oM.access (rows k)).Stores Finset.univ} {hm : (Finset.univ : Finset (rows k).shape.Idx) = Finset.univ ∨ ∀ a, (rows k).stride a = 1}
    {α : Type} {Q : α → sProp 𝕄} {kont : PUnit → Prog (TpuEff nD τ sig (Elt F) Λ₀ .tc) α} :
    iprop(agreed x ∗ owing c (due c l) ∗ cred (tallyAt (sendCell st k c) () N) ∗ claim st k c)
      ⊢ iprop(((owing c (due c l) ∗ finished st k c ∗ holds c (outM k) (part x (st.val + 1) k c)) -∗ runs c (kont ⟨⟩) Q)
        -∗ runs c (.op (.waitDma2 (sendS st k) src dst hsrc hdst) fun _ => .op (.waitDma2 (recvS st k) src' dst' hsrc' hdst') fun _ =>
            .op (.load oM (rows k).toLoadRect h₁) fun v => .op (.load (landM st) (slot k).toLoadRect h₂) fun w =>
            .op (.load oM (rows k).toLoadRect h₃) fun _ => .op (.store oM (rows k) (pay v w) Finset.univ hx hm) kont) Q) := by
  have hA : Above (2 + st.val) (due c l) := above_due c l fun p hp => Nat.add_lt_add_left (hl p hp) 2
  unfold claim finished
  iintro ⟨#HA, HO, Hc, Hc', Hat, Hat'⟩ Hk
  iapply (step_await x c false st k (sendS st k) rfl (2 + st.val) (by rw [lv_send]; exact Nat.zero_le _) (due c l) hA (expect_send x c st k) hN) $$ [HO Hc Hat]
  · isplitr; · iexact HA
    isplitl [HO]; · iexact HO
    isplitl [Hc] <;> iassumption
  iintro ⟨HO, Hz, Hp⟩
  ihave Ho := (Entails.of_eq (rest_send x c st k)) $$ Hp
  iapply (step_await x c true st k (recvS st k) rfl (2 + st.val) (by rw [lv_recv]) (due c l) hA (expect_recv x c st k) hN') $$ [HO Hc' Hat']
  · isplitr; · iexact HA
    isplitl [HO]; · iexact HO
    isplitl [Hc'] <;> iassumption
  iintro ⟨HO, Hz', Hp⟩
  ihave Hi := (Entails.of_eq (rest_recv x c st k)) $$ Hp
  iapply (step_load c k _) $$ Ho
  iintro Ho
  iapply (step_load_in c st k _) $$ Hi
  iintro %w %hw Hi
  iapply (step_load c k _) $$ Ho
  iintro Ho
  iapply (step_store c k _ _) $$ Ho
  iintro Ho
  iapply Hk
  isplitl [HO]; · iexact HO
  isplitl [Hz Hz' Hi]
  · isplitl [Hz]; · iexact Hz
    isplitl [Hz']; · iexact Hz'
    iexists _; iexact Hi
  · iapply (Entails.of_eq (congrArg (holds c (outM k)) (show pay (part x st.val k c) w = part x (st.val + 1) k c by
      rw [hpay, hw, shapeCast_self, part_succ])))
    iexact Ho

end Cert.AllReduce

end
-- ==== Proof.Body.lean ====
/-
# The body of the kernel

One device's run of the kernel's body, step by step: from its copy of the block, its buffers and its tickets to the
finished sum, its semaphores at zero and its buffers back.
-/
module

public import Idealize.ShloMosaic.Lib.Ring
public import Idealize.ShloMosaic.Lib.MemrefSat
public import proofs.«01_k».proof.Proof.Steps

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → S1x512x512.Idx → F .bf16)

/-! ## Slots by partner and by stage -/

/-- The slots a partner writes, one for each chunk, are the slots of both stages, each given to the partner of its stage. -/
theorem landing_slots (D : Bool → Dev nD) :
    (iprop(landing true (D true) ∗ landing false (D false)) : sProp 𝕄)
      = bigSep Finset.univ fun p : Fin 2 × Fin 4 => iprop(∃ X, holds (D (side p.1.val p.2)) (inM p.1 p.2) X) := by
  have hside : ∀ b k, side (stageAt b k).val k = b := by decide
  have hstage : ∀ (st : Fin 2) k, stageAt (side st.val k) k = st := by decide
  rw [bigSep_univ_equiv (⟨fun q => (stageAt q.1 q.2, q.2), fun p => (side p.1.val p.2, p.2), fun q => by simp only [hside],
      fun p => by simp only [hstage]⟩ : Bool × Fin 4 ≃ Fin 2 × Fin 4),
    bigSep_univ_prod, bigSep_univ_eq_bigSepL [true, false] (by decide) (by decide)]
  simp only [Equiv.coe_fn_mk, hside]
  rfl

/-- Owning a buffer's part at some value is owning it at some contents. -/
theorem holds_some {s : Shape} {e : EltTy} (c : Dev nD) (M : Memref sig .tc .vmem s e) :
    (iprop(∃ X, holds (F := F) c M X) : sProp 𝕄) = iprop(∃ f, M.view.loc (c : Thread nD τ) ↦[M.view.set]{fullShare} f) := by
  have h : (iprop(∃ X, holds (F := F) c M X) : sProp 𝕄) ⊢ iprop(∃ f, M.view.loc (c : Thread nD τ) ↦[M.view.set]{fullShare} f) := by
    unfold holds owns
    iintro ⟨%X, %f, -, H⟩
    iexists f; iexact H
  have h' : (iprop(∃ f, M.view.loc (c : Thread nD τ) ↦[M.view.set]{fullShare} f) : sProp 𝕄) ⊢ iprop(∃ X, holds (F := F) c M X) := by
    unfold holds owns
    iintro ⟨%f, H⟩
    iexists _
    iexists f
    isplitr
    · ipureintro; rfl
    · iexact H
  exact BI.equiv_iff.mp ⟨h, h'⟩

/-- A landing buffer, whole at some contents. -/
def landBuf (st : Fin 2) (c : Dev nD) : sProp 𝕄 :=
  iprop(∃ f, (landM st).view.loc (c : Thread nD τ) ↦[(Finset.univ : Finset (Idx ((landM st).view.loc (c : Thread nD τ))))]{fullShare} f)

/-- The elements of a slot, named in its buffer. -/
def slotSet (st : Fin 2) (k : Fin 4) (c : Dev nD) : Finset (Idx ((landM st).view.loc (c : Thread nD τ))) := (inM st k).view.set

/-- In either stage a slot's elements are those of its rectangle. -/
theorem slotSet_eq (k : Fin 4) (c : Dev nD) : slotSet 0 k c = (slot k).set ∧ slotSet 1 k c = (slot k).set :=
  ⟨((set_in 0 k).trans (View.set_slice _ _)).trans (Finset.map_refl), ((set_in 1 k).trans (View.set_slice _ _)).trans (Finset.map_refl)⟩

/-- Different slots share no element -/
theorem slots_disjoint (st : Fin 2) (c : Dev nD) (k k' : Fin 4) (h : k ≠ k') : Disjoint (slotSet st k c) (slotSet st k' c) := by
  match st with
  | 0 => rw [(slotSet_eq k c).1, (slotSet_eq k' c).1]; exact disjoint_of_name mem_slot k k' h
  | 1 => rw [(slotSet_eq k c).2, (slotSet_eq k' c).2]; exact disjoint_of_name mem_slot k k' h

/-- and together they are the whole landing buffer. -/
theorem slots_cover (st : Fin 2) (c : Dev nD) : Finset.univ.biUnion (slotSet st · c) = Finset.univ := by
  match st with
  | 0 => simp only [(slotSet_eq _ c).1]; exact cover_of_name mem_slot
  | 1 => simp only [(slotSet_eq _ c).2]; exact cover_of_name mem_slot

/-- A landing buffer is its four slots. -/
theorem slots_split (st : Fin 2) (c : Dev nD) :
    landBuf (F := F) st c ⊢ bigSep Finset.univ fun k : Fin 4 => iprop(∃ X, holds c (inM st k) X) := by
  simp only [holds_some]
  unfold landBuf
  iintro ⟨%f, H⟩
  ihave H := (Entails.of_eq (Ring.pointsTo_blocks (slotSet st · c) (slots_disjoint st c) (slots_cover st c) f)) $$ H
  have some (k : Fin 4) : ((landM st).view.loc (c : Thread nD τ) ↦[slotSet st k c]{fullShare} f : sProp 𝕄)
      ⊢ iprop(∃ f, (inM st k).view.loc (c : Thread nD τ) ↦[(inM st k).view.set]{fullShare} f) := by
    iintro H; iexists f; iexact H
  iapply (Entails.trans (bigSep_mono fun k _ => some k) .rfl) $$ H

/-- The four slots, at any contents, are the landing buffer. -/
theorem slots_join (st : Fin 2) (c : Dev nD) :
    (bigSep Finset.univ fun k : Fin 4 => iprop(∃ X, holds (F := F) c (inM st k) X)) ⊢ landBuf (F := F) st c := by
  simp only [holds_some]
  have h := Ring.pointsTo_blocks_join_exists (Val := Elt F) (Name := ℕ) (Ix := Unit) (U := UU) (Lvl := ℕ) (q := fullShare) (slotSet st · c) (slots_disjoint st c) (slots_cover st c) (fun _ => Classical.arbitrary _)
  exact h

/-! ## The output by chunks -/

/-- The output buffer, at any contents, is its four chunks. -/
theorem out_split (c : Dev nD) :
    iprop(∃ X, holds (F := F) c oM X) ⊢ bigSep Finset.univ fun k : Fin 4 => iprop(∃ X, holds c (outM k) X) := by
  iintro ⟨%X, H⟩
  ihave H := (owns_rects (c : Thread nD τ) oM fullShare rows (fun _ _ => rfl) (disjoint_of_name mem_rows) (cover_of_name mem_rows) X) $$ H
  have some (k : Fin 4) : (holds (F := F) c (outM k) (fun j => X ((rows k).emb j)) : sProp 𝕄) ⊢ iprop(∃ X, holds c (outM k) X) := by
    iintro H; iexists _; iexact H
  iapply (Entails.trans (bigSep_mono fun k _ => some k) .rfl) $$ H

/-- Four chunks holding the rows of `X` are the output buffer holding `X`. -/
theorem out_join_at (c : Dev nD) (X : S512x512.Idx → Elt F .bf16) :
    (bigSep Finset.univ fun k : Fin 4 => holds c (outM k) fun j => X ((rows k).emb j)) ⊢ holds c oM X := by
  have h : (bigSep Finset.univ fun k : Fin 4 => holds c (outM k) fun j => X ((rows k).emb j))
      ⊢ iprop(∃ g, ⌜∀ k ∈ Finset.univ, ∀ j, oM.view.read (Elt F) g ((rows k).emb j) = X ((rows k).emb j)⌝
          ∗ oM.view.loc (c : Thread nD τ) ↦[Finset.univ.biUnion fun k => (oM.view.slice (rows k)).set]{fullShare} g) :=
    owns_rects_join (c : Thread nD τ) oM fullShare rows (fun _ _ => rfl) (disjoint_of_name mem_rows) X Finset.univ
  have hset : (Finset.univ.biUnion fun k => (oM.view.slice (rows k)).set) = oM.view.set :=
    (Finset.biUnion_congr rfl fun k _ => (View.set_slice _ _).trans Finset.map_refl).trans
      ((cover_of_name mem_rows).trans (View.set_whole cc0_stg1_0).symm)
  rw [hset] at h
  refine h.trans ?_
  unfold holds owns
  iintro ⟨%g, %hg, H⟩
  iexists g
  isplitr
  · ipureintro
    exact Rect.ext_of_cover rows (cover_of_name mem_rows) fun k j => hg k (Finset.mem_univ k) j
  · iexact H

/-- The four chunks after both stages are the output buffer holding the two-stage sum. -/
theorem out_join (c : Dev nD) : (bigSep Finset.univ fun k : Fin 4 => holds c (outM k) (part x 2 k c)) ⊢ holds c oM (acc x 2 c) :=
  out_join_at c (acc x 2 c)

/-- The chunks one by one. -/
theorem by_chunk (P : Fin 4 → sProp 𝕄) : bigSep Finset.univ P = iprop(P 0 ∗ P 1 ∗ P 2 ∗ P 3) := by
  rw [bigSep_univ_eq_bigSepL [0, 1, 2, 3] (by decide) (by decide)]; rfl

/-- The transfers one by one, in the order in which they start. -/
theorem by_transfer (P : Fin 2 × Fin 4 → sProp 𝕄) : bigSep Finset.univ P
    = iprop(P (0, 0) ∗ P (0, 2) ∗ P (0, 1) ∗ P (0, 3) ∗ P (1, 0) ∗ P (1, 2) ∗ P (1, 1) ∗ P (1, 3)) := by
  rw [bigSep_univ_eq_bigSepL allList (by decide) (by decide)]; rfl

/-- A chunk of the output is worth the same credit as a slot. -/
theorem credit_out (k : Fin 4) : (outM k).view.dmaCredit = N := by
  fin_cases k <;> decide

/-- The device numbers the kernel computes name the two partners. -/
theorem to_partner : ∀ c : Dev nD, k0_dev1 c = (partner true c).val ∧ k0_dev2 c = (partner false c).val ∧ k0_dev3 c = (partner true c).val
    ∧ k0_dev4 c = (partner false c).val ∧ k0_dev5 c = (partner true c).val ∧ k0_dev6 c = (partner false c).val
    ∧ k0_dev7 c = (partner false c).val ∧ k0_dev8 c = (partner true c).val ∧ k0_dev9 c = (partner false c).val
    ∧ k0_dev10 c = (partner true c).val := by decide +kernel

/-! ## The run -/

/-- Before the body: the block, the buffers, and what the protocol gives. -/
def before (c : Dev nD) : sProp 𝕄 :=
  iprop(agreed x ∗ owing c (dues c) ∗ holds c xM (x c) ∗ (∃ X, holds c oM X)
    ∗ (bigSep Finset.univ fun p : Fin 2 × Fin 4 => iprop(∃ X, holds c (inM p.1 p.2) X))
    ∗ (dutyTok EX (barCell (partner true c)) 0 true ∗ dutyTok EX (barCell (partner false c)) 0 false)
    ∗ (bigSep Finset.univ fun p : Fin 2 × Fin 4 => ticket p.1 p.2 c)
    ∗ (bigSep Finset.univ fun p : Fin 2 × Fin 4 => claim p.1 p.2 c)
    ∗ cred (tallyAt (barCell c) () 2) ∗ atPos EX (barCell c) 0 ∅ 0)

/-- After it: the sum in the output, everything settled. -/
def after (c : Dev nD) : sProp 𝕄 :=
  iprop(owing c 0 ∗ holds c xM (x c) ∗ holds c oM (acc x 2 c)
    ∗ (bigSep Finset.univ fun p : Fin 2 × Fin 4 => finished p.1 p.2 c) ∗ semVal (barCell c) 0)

/-- The kernel's body, run on device `c` from what it holds before, ends with what it holds after. -/
theorem run_body (c : Dev nD) (Q : PUnit → sProp 𝕄) :
    iprop(before x c ∗ (after x c -∗ Q ⟨⟩))
      ⊢ runs c (cc0_body (Memref.whole cc0_stg0_0) (Memref.isWhole_whole _) (Memref.whole cc0_stg1_0) (Memref.isWhole_whole _)
          (Memref.whole cc0_scratch0) (Memref.isWhole_whole _) (Memref.whole cc0_scratch1) (Memref.isWhole_whole _)
          cc0_scratch2 cc0_scratch3 cc0_scratch4 cc0_scratch5) Q := by
  unfold runs
  simp only [cc0_body_eq_skeleton]
  unfold cc0_body_skel
  simp only [k0_part11_eq_skeleton]
  unfold k0_part11_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton]
  unfold k0_part1_skel k0_part2_skel k0_part3_skel k0_part4_skel k0_part5_skel k0_part6_skel k0_part7_skel k0_part8_skel k0_part9_skel k0_part10_skel
  simp only [semSignalWord, semWaitWord, Prog.lift, Prog.bind_op, Prog.bind_ret, Prog.pure_eq_ret, Prog.bind_assoc, wp_deviceId]
  unfold before
  iintro ⟨⟨#HA, HO, HX, Ho, Hi, ⟨Ht, Hf⟩, HT, HC, Hc, Hat⟩, Hk⟩
  ihave Hi := (Entails.of_eq (landing_slots fun _ => c).symm) $$ Hi
  icases Hi with ⟨Lt, Lf⟩
  ihave Ho := (out_split c) $$ Ho
  ihave Ho := (Entails.of_eq (by_chunk _)) $$ Ho
  icases Ho with ⟨O0, O1, O2, O3⟩
  ihave HT := (Entails.of_eq (by_transfer _)) $$ HT
  icases HT with ⟨T00, T02, T01, T03, T10, T12, T11, T13⟩
  ihave HC := (Entails.of_eq (by_transfer _)) $$ HC
  icases HC with ⟨C00, C02, C01, C03, C10, C12, C11, C13⟩
  -- both partners are told that this device is here
  iapply (step_signal x true c _ (Fin.ext (to_partner c).1) (due c allList + tallyAt (barCell (partner false c)) () 1)) $$ [HO Ht Lt]
  · isplitr; · iexact HA
    isplitl [HO]; · iexact HO
    isplitl [Ht] <;> iassumption
  iintro HO
  iapply (step_signal x false c _ (Fin.ext (to_partner c).2.1) (due c allList)) $$ [HO Hf Lf]
  · isplitr; · iexact HA
    isplitl [HO]; · iexact HO
    isplitl [Hf] <;> iassumption
  iintro HO
  -- the block is copied to the output
  iapply (step_copy x c 0 k0_pay1 fun _ => rfl) $$ [HX O0]
  · isplitl [HX] <;> iassumption
  iintro ⟨HX, O0⟩
  iapply (step_copy x c 2 k0_pay2 fun _ => rfl) $$ [HX O2]
  · isplitl [HX] <;> iassumption
  iintro ⟨HX, O2⟩
  iapply (step_copy x c 1 k0_pay3 fun _ => rfl) $$ [HX O1]
  · isplitl [HX] <;> iassumption
  iintro ⟨HX, O1⟩
  iapply (step_copy x c 3 k0_pay4 fun _ => rfl) $$ [HX O3]
  · isplitl [HX] <;> iassumption
  iintro ⟨HX, O3⟩
  -- both partners are here
  iapply (step_barrier x c (due c allList) (above_due c _ (by decide))) $$ [HO Hc Hat]
  · isplitr; · iexact HA
    isplitl [HO]; · iexact HO
    isplitl [Hc] <;> iassumption
  iintro ⟨HO, HZ, HP⟩
  ihave HP := (Entails.of_eq (landing_slots fun b => partner b c)) $$ HP
  ihave HP := (Entails.of_eq (by_transfer _)) $$ HP
  icases HP with ⟨P00, P02, P01, P03, P10, P12, P11, P13⟩
  -- the first stage's transfers start
  iapply (step_send x c _ 0 0 (Fin.ext (to_partner c).2.2.1) [(0, 2), (0, 1), (0, 3), (1, 0), (1, 2), (1, 1), (1, 3)]) $$ [HO T00 O0 P00]
  · isplitr; · iexact HA
    isplitl [HO]; · iexact HO
    isplitl [T00]; · iexact T00
    isplitl [O0]; · iexact O0
    iexact P00
  iintro ⟨HO, S00⟩
  iapply (step_send x c _ 0 2 (Fin.ext (to_partner c).2.2.2.1) [(0, 1), (0, 3), (1, 0), (1, 2), (1, 1), (1, 3)]) $$ [HO T02 O2 P02]
  · isplitr; · iexact HA
    isplitl [HO]; · iexact HO
    isplitl [T02]; · iexact T02
    isplitl [O2]; · iexact O2
    iexact P02
  iintro ⟨HO, S02⟩
  iapply (step_send x c _ 0 1 (Fin.ext (to_partner c).2.2.2.2.1) [(0, 3), (1, 0), (1, 2), (1, 1), (1, 3)]) $$ [HO T01 O1 P01]
  · isplitr; · iexact HA
    isplitl [HO]; · iexact HO
    isplitl [T01]; · iexact T01
    isplitl [O1]; · iexact O1
    iexact P01
  iintro ⟨HO, S01⟩
  iapply (step_send x c _ 0 3 (Fin.ext (to_partner c).2.2.2.2.2.1) [(1, 0), (1, 2), (1, 1), (1, 3)]) $$ [HO T03 O3 P03]
  · isplitr; · iexact HA
    isplitl [HO]; · iexact HO
    isplitl [T03]; · iexact T03
    isplitl [O3]; · iexact O3
    iexact P03
  iintro ⟨HO, S03⟩
  -- each chunk of the first stage is finished and sent on
  iapply (step_finish x c 0 0 [(1, 0), (1, 2), (1, 1), (1, 3)] (by decide) k0_pay5 (fun _ _ => rfl) (credit_out 0) (credit_in 0 0)) $$ [HO S00 C00]
  · isplitr; · iexact HA
    isplitl [HO]; · iexact HO
    isplitl [S00] <;> iassumption
  iintro ⟨HO, D00, O0⟩
  iapply (step_send x c _ 1 0 (Fin.ext (to_partner c).2.2.2.2.2.2.1) [(1, 2), (1, 1), (1, 3)]) $$ [HO T10 O0 P10]
  · isplitr; · iexact HA
    isplitl [HO]; · iexact HO
    isplitl [T10]; · iexact T10
    isplitl [O0]; · iexact O0
    iexact P10
  iintro ⟨HO, S10⟩
  iapply (step_finish x c 0 2 [(1, 2), (1, 1), (1, 3)] (by decide) k0_pay6 (fun _ _ => rfl) (credit_out 2) (credit_in 0 2)) $$ [HO S02 C02]
  · isplitr; · iexact HA
    isplitl [HO]; · iexact HO
    isplitl [S02] <;> iassumption
  iintro ⟨HO, D02, O2⟩
  iapply (step_send x c _ 1 2 (Fin.ext (to_partner c).2.2.2.2.2.2.2.1) [(1, 1), (1, 3)]) $$ [HO T12 O2 P12]
  · isplitr; · iexact HA
    isplitl [HO]; · iexact HO
    isplitl [T12]; · iexact T12
    isplitl [O2]; · iexact O2
    iexact P12
  iintro ⟨HO, S12⟩
  iapply (step_finish x c 0 1 [(1, 1), (1, 3)] (by decide) k0_pay7 (fun _ _ => rfl) (credit_out 1) (credit_in 0 1)) $$ [HO S01 C01]
  · isplitr; · iexact HA
    isplitl [HO]; · iexact HO
    isplitl [S01] <;> iassumption
  iintro ⟨HO, D01, O1⟩
  iapply (step_send x c _ 1 1 (Fin.ext (to_partner c).2.2.2.2.2.2.2.2.1) [(1, 3)]) $$ [HO T11 O1 P11]
  · isplitr; · iexact HA
    isplitl [HO]; · iexact HO
    isplitl [T11]; · iexact T11
    isplitl [O1]; · iexact O1
    iexact P11
  iintro ⟨HO, S11⟩
  iapply (step_finish x c 0 3 [(1, 3)] (by decide) k0_pay8 (fun _ _ => rfl) (credit_out 3) (credit_in 0 3)) $$ [HO S03 C03]
  · isplitr; · iexact HA
    isplitl [HO]; · iexact HO
    isplitl [S03] <;> iassumption
  iintro ⟨HO, D03, O3⟩
  iapply (step_send x c _ 1 3 (Fin.ext (to_partner c).2.2.2.2.2.2.2.2.2) []) $$ [HO T13 O3 P13]
  · isplitr; · iexact HA
    isplitl [HO]; · iexact HO
    isplitl [T13]; · iexact T13
    isplitl [O3]; · iexact O3
    iexact P13
  iintro ⟨HO, S13⟩
  -- the second stage is finished
  iapply (step_finish x c 1 0 [] (by decide) k0_pay9 (fun _ _ => rfl) (credit_out 0) (credit_in 1 0)) $$ [HO S10 C10]
  · isplitr; · iexact HA
    isplitl [HO]; · iexact HO
    isplitl [S10] <;> iassumption
  iintro ⟨HO, D10, O0⟩
  iapply (step_finish x c 1 2 [] (by decide) (fun v => k0_pay11 (k0_pay10 v)) (fun _ _ => rfl) (credit_out 2) (credit_in 1 2)) $$ [HO S12 C12]
  · isplitr; · iexact HA
    isplitl [HO]; · iexact HO
    isplitl [S12] <;> iassumption
  iintro ⟨HO, D12, O2⟩
  iapply (step_finish x c 1 1 [] (by decide) k0_pay12 (fun _ _ => rfl) (credit_out 1) (credit_in 1 1)) $$ [HO S11 C11]
  · isplitr; · iexact HA
    isplitl [HO]; · iexact HO
    isplitl [S11] <;> iassumption
  iintro ⟨HO, D11, O1⟩
  iapply (step_finish x c 1 3 [] (by decide) k0_pay13 (fun _ _ => rfl) (credit_out 3) (credit_in 1 3)) $$ [HO S13 C13]
  · isplitr; · iexact HA
    isplitl [HO]; · iexact HO
    isplitl [S13] <;> iassumption
  iintro ⟨HO, D13, O3⟩
  unfold runs
  rw [wp_ret]; imodintro
  iapply Hk
  unfold after
  isplitl [HO]; · iexact HO
  isplitl [HX]; · iexact HX
  isplitl [O0 O1 O2 O3]
  · iapply (out_join x c)
    iapply (Entails.of_eq (by_chunk _).symm)
    isplitl [O0]; · iexact O0
    isplitl [O1]; · iexact O1
    isplitl [O2]; · iexact O2
    iexact O3
  isplitr [HZ]
  · iapply (Entails.of_eq (by_transfer _).symm)
    isplitl [D00]; · iexact D00
    isplitl [D02]; · iexact D02
    isplitl [D01]; · iexact D01
    isplitl [D03]; · iexact D03
    isplitl [D10]; · iexact D10
    isplitl [D12]; · iexact D12
    isplitl [D11]; · iexact D11
    iexact D13
  · iexact HZ

end Cert.AllReduce

end
-- ==== Proof.Launch.lean ====
/-
# The launch

How the protocol is set up: every semaphore's round, the tokens of what is owed on it, and the credits, dealt so that
each device has what its run starts from.
-/
module

public import proofs.«01_k».proof.Proof.Steps

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → S1x512x512.Idx → F .bf16)

/-! ## Semaphores and tokens, listed -/

/-- A stage and a chunk. -/
abbrev Xfer : Type := Fin 2 × Fin 4

/-- A device's semaphores are all different, -/
theorem semAt_injective : Function.Injective semAt := by
  have h : ∀ i j : Slot, semAt i = semAt j → i = j := by decide +kernel
  exact fun i j => h i j

/-- and so are those of all devices. -/
theorem cellAt_injective : Function.Injective cellAt := by
  rintro ⟨c, i⟩ ⟨d, j⟩ h
  have h1 : c = d := congrArg (fun g : GSem nD τ sig => g.1.1) h
  have h2 : i = j := semAt_injective (congrArg Prod.snd h)
  rw [h1, h2]

/-- The tokens of a device's own semaphores: one for each transfer's end, and one for each partner at the barrier. -/
abbrev Token : Type := (Bool × Xfer) ⊕ Bool
/-- Where a token lives: its semaphore, round 0, and its duty. -/
def tokenAt : Dev nD × Token → GSem nD τ sig × ℕ × Bool
  | (c, .inl p) => (cellAt (c, .inl p), 0, false)
  | (c, .inr b) => (barCell c, 0, b)

/-- The tokens are all different. -/
theorem tokenAt_injective : Function.Injective tokenAt := by
  rintro ⟨c, p | b⟩ ⟨d, q | b'⟩ h
  · have := cellAt_injective (congrArg Prod.fst h); cases this; rfl
  · have := cellAt_injective (a₁ := (c, .inl p)) (a₂ := (d, .inr ())) (congrArg Prod.fst h); cases this
  · have := cellAt_injective (a₁ := (c, .inr ())) (a₂ := (d, .inl q)) (congrArg Prod.fst h); cases this
  · have h1 := cellAt_injective (a₁ := (c, .inr ())) (a₂ := (d, .inr ())) (congrArg Prod.fst h)
    have h2 : b = b' := congrArg (fun t => t.2.2) h
    cases h1; rw [h2]

/-- All semaphores of the exchange, -/
def allCells : Finset (GSem nD τ sig) := Finset.univ.map ⟨cellAt, cellAt_injective⟩
/-- and all tokens. -/
def allTokens : Finset (GSem nD τ sig × ℕ × Bool) := Finset.univ.map ⟨tokenAt, tokenAt_injective⟩

/-- The launch's ghost state: the pipeline's and the exchange's. -/
def u₀ : UU := (initOf (Pipeline.cells cfgs cellOf_inj) (Pipeline.launchToks cfgs cellOf_inj), initOf allCells allTokens)

/-- The kernel's own semaphores. -/
abbrev osem : Bool × Xfer → SemLoc sig := fun p => semAt (.inl p)

/-- They are scoped, none twice, and none is a window's. -/
theorem ownSemFacts : Pipeline.OwnSemFacts cfg0.spec osem := by decide

/-! ## Dealing out -/

/-- The tokens of device `c`'s own semaphores. -/
def minted (c : Dev nD) : sProp 𝕄 :=
  iprop((bigSep Finset.univ fun p : Xfer => dutyTok EX (sendCell p.1 p.2 c) 0 false)
    ∗ (bigSep Finset.univ fun p : Xfer => dutyTok EX (recvCell p.1 p.2 c) 0 false)
    ∗ bigSep Finset.univ fun b : Bool => dutyTok EX (barCell c) 0 b)

/-- What the launch's ghost state gives device `c`. -/
def dealt (c : Dev nD) : sProp 𝕄 :=
  iprop((bigSep Finset.univ fun i : Slot => iprop(roundState EX (sched x) (cellAt (c, i)) 0 ∗ reached EX (cellAt (c, i)) 0))
    ∗ (bigSep Finset.univ fun i : Slot => atPos EX (cellAt (c, i)) 0 ∅ 0) ∗ minted c)

/-- The tokens device `c` pays with. -/
def paying (c : Dev nD) : sProp 𝕄 :=
  iprop((bigSep Finset.univ fun p : Xfer => ticket p.1 p.2 c) ∗ bigSep Finset.univ fun b : Bool => dutyTok EX (barCell (partner b c)) 0 b)

/-- What device `c` has once all is set up. -/
def ready (c : Dev nD) : sProp 𝕄 :=
  iprop((bigSep Finset.univ fun di : Dev nD × Slot => known x (cellAt di))
    ∗ (bigSep Finset.univ fun i : Slot => atPos EX (cellAt (c, i)) 0 ∅ 0) ∗ paying c)

omit [FloatOps F] in
/-- A device's semaphores: the senders', the receivers', the barrier. -/
theorem by_slot (Φ : Slot → sProp 𝕄) : bigSep Finset.univ Φ
    = iprop(((bigSep Finset.univ fun p : Xfer => Φ (.inl (true, p))) ∗ bigSep Finset.univ fun p : Xfer => Φ (.inl (false, p))) ∗ Φ (.inr ())) := by
  rw [BI.bigSep_univ_sum, bigSep_univ_prod, bigSep_univ_eq_bigSepL [true, false] (by decide) (by decide),
    bigSep_univ_eq_bigSepL [()] (by decide) (by decide)]
  rfl

/-- The exchange's ghost state is every device's share of it. -/
theorem fund : BI.own (EX (initOf allCells allTokens)) ⊢ (|==> bigSep Finset.univ (dealt x) : sProp 𝕄) := by
  have hC (Φ : GSem nD τ sig → sProp 𝕄) : bigSep allCells Φ = bigSep Finset.univ fun c : Dev nD => bigSep Finset.univ fun i : Slot => Φ (cellAt (c, i)) := by
    unfold allCells; rw [bigSep_map, bigSep_univ_prod]; rfl
  have hT : bigSep allTokens (fun t => (dutyTok EX t.1 t.2.1 t.2.2 : sProp 𝕄)) = bigSep Finset.univ fun c : Dev nD => minted c := by
    unfold allTokens; rw [bigSep_map, bigSep_univ_prod]
    refine bigSep_congr fun c _ => ?_
    unfold minted
    rw [BI.bigSep_univ_sum, bigSep_univ_prod, bigSep_univ_eq_bigSepL [false, true] (by decide) (by decide)]
    exact BI.equiv_iff.mp ⟨BI.sep_assoc, BI.sep_assoc'⟩
  iintro HX
  imod (Rounds.fund EX (sched x) allCells allTokens) $$ HX with ⟨Hst, Hr, Hat, Htok⟩
  imodintro
  ihave Hst := (Entails.of_eq (hC fun g => roundState EX (sched x) g 0)) $$ Hst
  ihave Hat := (Entails.of_eq (hC fun g => atPos EX g 0 ∅ 0)) $$ Hat
  ihave Hr := (Entails.of_eq (hC fun g => reached EX g 0)) $$ Hr
  ihave Htok := (Entails.of_eq hT) $$ Htok
  unfold dealt
  simp only [bigSep_sep']
  isplitl [Hst Hr]
  · isplitl [Hst] <;> iassumption
  isplitl [Hat] <;> iassumption

/-- A semaphore at zero, with its round's state, starts to follow the schedule. -/
theorem known_intro (g : GSem nD τ sig) :
    iprop(semVal g 0 ∗ roundState EX (sched x) g 0 ∗ reached EX g 0) ⊢ |={Set.univ}=> known x g := by
  unfold known
  iintro ⟨Hv, Hs, #Hr⟩
  imod (show iprop(semVal g 0 ∗ roundState EX (sched x) g 0) ⊢ (|={Set.univ}=> iprop(∃ κ : ℕ, cellInv EX (sched x) κ g) : sProp 𝕄) from
    (Rounds.body_intro EX (sched x) g).trans inv_alloc) $$ [Hv Hs] with ⟨%κ, HI⟩
  · isplitl [Hv] <;> iassumption
  imodintro
  iexists κ
  isplitl [HI]; · iexact HI
  iexact Hr

omit [FloatOps F] in
/-- The one semaphore that is not scoped is the barrier. -/
theorem barrier_sem (c : Dev nD) : (unscopedSems0 c : sProp 𝕄) = semVal (barCell c) 0 := by
  unfold unscopedSems0
  rw [bigSep_eq_bigSepL_of_eq [SemLoc.reg barS] (by decide) (by decide)]
  rfl

omit [FloatOps F] in
/-- A device's semaphores are the kernel's own and the barrier. -/
theorem sems_at_zero (c : Dev nD) :
    (bigSep Finset.univ fun i : Slot => (semVal (cellAt (c, i)) 0 : sProp 𝕄))
      = iprop(Pipeline.ownSems0 (Ix := Unit) (Name := ℕ) (U := UU) (Lvl := ℕ) (Val := Elt F) (τ := τ) osem c ∗ unscopedSems0 c) := by
  rw [BI.bigSep_univ_sum, bigSep_univ_eq_bigSepL [()] (by decide) (by decide), barrier_sem]
  rfl

/-- On one device, semaphores at zero and their ghost state start to follow the schedule. -/
theorem start_one (c : Dev nD) :
    iprop(Pipeline.ownSems0 (Ix := Unit) (Name := ℕ) (U := UU) (Lvl := ℕ) (Val := Elt F) (τ := τ) osem c ∗ unscopedSems0 c ∗ dealt x c)
      ⊢ |={Set.univ}=> iprop((bigSep Finset.univ fun i : Slot => known x (cellAt (c, i)))
          ∗ (bigSep Finset.univ fun i : Slot => atPos EX (cellAt (c, i)) 0 ∅ 0) ∗ minted c) := by
  unfold dealt
  iintro ⟨Hos, Hus, Hst, Hat, Htok⟩
  ihave Hv := (Entails.of_eq (sems_at_zero (F := F) c).symm) $$ [Hos Hus]
  · isplitl [Hos] <;> iassumption
  imod (show iprop((bigSep Finset.univ fun i : Slot => semVal (cellAt (c, i)) 0)
        ∗ bigSep Finset.univ fun i : Slot => iprop(roundState EX (sched x) (cellAt (c, i)) 0 ∗ reached EX (cellAt (c, i)) 0))
      ⊢ (|={Set.univ}=> bigSep Finset.univ fun i : Slot => known x (cellAt (c, i)) : sProp 𝕄) from by
        rw [← bigSep_sep']
        exact (bigSep_mono fun i _ => known_intro x (cellAt (c, i))).trans (bigSep_fupd _ _)) $$ [Hv Hst] with HK
  · isplitl [Hv] <;> iassumption
  imodintro
  isplitl [HK]; · iexact HK
  isplitl [Hat] <;> iassumption

omit [FloatOps F] in
/-- Something held at every device, for each of a family of sides, may be held by the partners on those sides. -/
theorem exchange {I : Type} [Fintype I] (b : I → Bool) (Φ : I → Dev nD → sProp 𝕄) :
    (bigSep Finset.univ fun c : Dev nD => bigSep Finset.univ fun i => Φ i c)
      = bigSep Finset.univ fun c : Dev nD => bigSep Finset.univ fun i => Φ i (partner (b i) c) := by
  have flip (Ψ : I → Dev nD → sProp 𝕄) : (bigSep Finset.univ fun c : Dev nD => bigSep Finset.univ fun i => Ψ i c)
      = bigSep Finset.univ fun i => bigSep Finset.univ fun c : Dev nD => Ψ i c := by
    rw [← bigSep_univ_prod (fun q : Dev nD × I => Ψ q.2 q.1), bigSep_univ_equiv (Equiv.prodComm I (Dev nD)), bigSep_univ_prod]
    rfl
  rw [flip, flip, bigSep_congr (s := Finset.univ) fun i _ => bigSep_univ_equiv (swap (b i)) (Φ i)]
  rfl

omit [FloatOps F] in
/-- Every token goes to the device that pays with it: a receiver's to the sender, a barrier's to the partner. -/
theorem pay_tokens : (bigSep Finset.univ fun c : Dev nD => (minted c : sProp 𝕄)) ⊢ bigSep Finset.univ fun c : Dev nD => paying c := by
  unfold minted paying ticket
  simp only [bigSep_sep']
  rw [exchange (fun p : Xfer => side p.1.val p.2) fun p c => (dutyTok EX (recvCell p.1 p.2 c) 0 false : sProp 𝕄),
    exchange (fun b : Bool => b) fun b c => (dutyTok EX (barCell c) 0 b : sProp 𝕄)]
  iintro ⟨H1, H2, H3⟩
  isplitl [H1 H2]
  · isplitl [H1] <;> iassumption
  iexact H3

omit [FloatOps F] in
/-- What is known for good is known beside every part of a product. -/
theorem share_known {I : Type} [Fintype I] [DecidableEq I] {R : sProp 𝕄} [BI.Persistent R] {Φ : I → sProp 𝕄} :
    iprop(R ∗ bigSep Finset.univ Φ) ⊢ bigSep Finset.univ fun i => iprop(R ∗ Φ i) := by
  rw [bigSep_sep']
  exact sep_mono_left (BI.bigSep_of_persistent Finset.univ R)

/-- With the tokens passed on and every semaphore known to all, each device is ready. -/
theorem share_out :
    (bigSep Finset.univ fun c => iprop((bigSep Finset.univ fun i : Slot => known x (cellAt (c, i)))
          ∗ (bigSep Finset.univ fun i : Slot => atPos EX (cellAt (c, i)) 0 ∅ 0) ∗ minted c) : sProp 𝕄)
      ⊢ bigSep Finset.univ (ready x) := by
  simp only [bigSep_sep']
  rw [← bigSep_univ_prod (fun di : Dev nD × Slot => known x (cellAt di))]
  iintro ⟨#HK, Hat, Htok⟩
  ihave Hp := (pay_tokens (F := F)) $$ Htok
  unfold ready
  iapply (share_known (R := bigSep Finset.univ fun di : Dev nD × Slot => known x (cellAt di)))
  isplitr; · iexact HK
  rw [bigSep_sep']
  isplitl [Hat] <;> iassumption

/-- Setting up all devices at once. -/
theorem start_all :
    (bigSep Finset.univ fun c => iprop(Pipeline.ownSems0 (Ix := Unit) (Name := ℕ) (U := UU) (Lvl := ℕ) (Val := Elt F) (τ := τ) osem c ∗ unscopedSems0 c ∗ dealt x c) : sProp 𝕄)
      ⊢ |={Set.univ}=> bigSep Finset.univ (ready x) :=
  ((bigSep_mono fun c _ => start_one x c).trans (bigSep_fupd _ _)).trans (BI.fupd_mono (share_out x))

/-! ## Credits -/

omit [FloatOps F] in
/-- Receiving semaphores of different transfers or devices are different. -/
theorem recvCell_inj {st st' : Fin 2} {k k' : Fin 4} {c d : Dev nD} (h : recvCell st k c = recvCell st' k' d) : (st, k) = (st', k') ∧ c = d := by
  have := cellAt_injective (a₁ := (c, .inl (true, st, k))) (a₂ := (d, .inl (true, st', k'))) h
  cases this; exact ⟨rfl, rfl⟩

/-- What device `d` owes a receiving semaphore: each transfer of that stage and chunk it has still to send to it. -/
theorem due_recv (c d : Dev nD) (st : Fin 2) (k : Fin 4) : ∀ l : List Xfer,
    due d l (recvCell st k c) () = if d = peer st.val k c then l.count (st, k) * N else 0
  | [] => by simp [due]
  | p :: l => by
    rw [due_cons, Pi.add_apply, Finsupp.add_apply, due_recv c d st k l, tallyAt_apply, List.count_cons]
    by_cases hd : d = peer st.val k c
    · subst hd
      by_cases hp : p = (st, k)
      · subst hp
        rw [if_pos rfl, if_pos rfl, if_pos ⟨by rw [peer_peer], rfl⟩]
        simp only [BEq.rfl, if_true, Nat.add_mul, Nat.one_mul]
      · rw [if_pos rfl, if_pos rfl, if_neg fun h => hp (recvCell_inj h.1).1.symm]
        simp [hp]
    · rw [if_neg hd, if_neg hd, if_neg]
      rintro ⟨h, -⟩
      obtain ⟨hp, hc⟩ := recvCell_inj h
      cases hp
      exact hd (by rw [hc, peer_peer])

omit [FloatOps F] in
/-- No transfer is owed to a barrier. -/
theorem due_bar (c d : Dev nD) : ∀ l : List Xfer, due d l (barCell c) () = 0
  | [] => rfl
  | p :: l => by
    rw [due_cons, Pi.add_apply, Finsupp.add_apply, due_bar c d l, tallyAt_apply, if_neg]
    rintro ⟨h, -⟩
    exact absurd (congrArg Prod.snd h) (fun h => by cases h)

omit [FloatOps F] in
/-- A device's barrier is a partner's of `d` exactly if `d` is its partner. -/
theorem barCell_partner (b : Bool) (c d : Dev nD) : barCell c = barCell (partner b d) ↔ d = partner b c := by
  constructor
  · intro h
    have := cellAt_injective (a₁ := (c, .inr ())) (a₂ := (partner b d, .inr ())) h
    rw [show c = partner b d from congrArg Prod.fst this, partner_partner]
  · rintro rfl; rw [partner_partner]

omit [FloatOps F] in
/-- A receiving semaphore is owed one transfer's credit in all. -/
theorem dues_recv (c : Dev nD) (p : Xfer) : ∑ d, dues d (recvCell p.1 p.2 c) () = N := by
  have hone : ∀ p : Xfer, allList.count p = 1 := by decide
  have hne (b : Bool) (d : Dev nD) : ¬(recvCell p.1 p.2 c = barCell (partner b d) ∧ () = ()) := fun h => by cases congrArg Prod.snd h.1
  have hd (d : Dev nD) : dues d (recvCell p.1 p.2 c) () = if d = peer p.1.val p.2 c then N else 0 := by
    unfold dues
    rw [Pi.add_apply, Finsupp.add_apply, Pi.add_apply, Finsupp.add_apply, tallyAt_apply, tallyAt_apply, due_recv, hone,
      if_neg (hne false d), if_neg (hne true d), Nat.one_mul, Nat.add_zero]
  rw [Finset.sum_congr rfl fun d _ => hd d, Finset.sum_ite_eq' Finset.univ (peer p.1.val p.2 c) fun _ => N, if_pos (Finset.mem_univ _)]

omit [FloatOps F] in
/-- A barrier is owed one unit by each partner. -/
theorem dues_bar (c : Dev nD) : ∑ d, dues d (barCell c) () = 2 := by
  have hd (d : Dev nD) : dues d (barCell c) () = (if d = partner false c then 1 else 0) + (if d = partner true c then 1 else 0) := by
    unfold dues
    rw [Pi.add_apply, Finsupp.add_apply, Pi.add_apply, Finsupp.add_apply, tallyAt_apply, tallyAt_apply, due_bar, Nat.zero_add]
    simp only [barCell_partner, and_true]
  rw [Finset.sum_congr rfl fun d _ => hd d, Finset.sum_add_distrib, Finset.sum_ite_eq' Finset.univ (partner false c) fun _ => 1,
    Finset.sum_ite_eq' Finset.univ (partner true c) fun _ => 1, if_pos (Finset.mem_univ _), if_pos (Finset.mem_univ _)]

omit [FloatOps F] in
/-- The launch's credit at a semaphore is what all devices owe it. -/
theorem credit_of_dues (g : GSem nD τ sig) (n : ℕ) (h : ∑ d, dues d g () = n) :
    tallyOn g (launchCredit (Pipeline.owing dues) 0 g) = (tallyAt g () n : CellTallies nD τ sig Unit) := by
  unfold tallyAt
  refine congrArg _ (Finsupp.ext fun u => ?_)
  cases u
  rw [Pipeline.launchCredit_owing, Finsupp.single_eq_same, h]

omit [FloatOps F] in
/-- At launch a device has the credit of every transfer to it, and two units at its barrier. -/
theorem credits (c : Dev nD) :
    (Pipeline.launchCred dues c : sProp 𝕄)
      ⊢ iprop((bigSep Finset.univ fun p : Xfer => cred (tallyAt (recvCell p.1 p.2 c) () N)) ∗ cred (tallyAt (barCell c) () 2)) := by
  unfold Pipeline.launchCred
  refine (bigSep_subset (Finset.subset_univ (Finset.univ.map ⟨semAt, semAt_injective⟩))).trans ?_
  rw [bigSep_map, by_slot]
  refine sep_mono ?_ ?_
  · refine sep_elim_left.trans (Entails.of_eq (bigSep_congr fun p _ => ?_))
    exact congrArg cred (credit_of_dues _ _ (dues_recv c p))
  · exact Entails.of_eq (congrArg cred (credit_of_dues _ _ (dues_bar c)))

end Cert.AllReduce

end
-- ==== Proof.Run.lean ====
/-
# The run

The kernel run on all devices from any memory: it terminates, its result is the two-stage sum on every device, its
argument is as before, and every semaphore is at zero.
-/
module

public import Idealize.ShloMosaic.Lib.Pipeline.CollectiveSegs
public import proofs.«01_k».proof.Proof.Body
public import proofs.«01_k».proof.Proof.Launch
public import proofs.«01_k».proof.Proof.Gen.KernelIdeal.Points

@[expose] public section

noncomputable section

namespace Cert.AllReduce

open Cert.KernelIdeal Cert.KernelIdeal.Gen
open Idealize.ShloMosaic Idealize.ShloMosaic.Pipeline
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : ∀ ℓ : Loc nD τ sig, Buf (Elt F) ℓ) (ρ : Dev nD → PrngReg)

/-! ## What a device holds at the start and at the end -/

/-- The start: all memory as given, every semaphore at zero. -/
abbrev s₀ : MemSt nD τ sig (Elt F) := ⟨m, fun _ => 0, ρ⟩

/-- Device `c`'s block of the input. -/
def xin (c : Dev nD) : S1x512x512.Idx → F .bf16 :=
  (win0_0.blk (0 : Fin 1)).view.read (Elt F) (m ((c : Thread nD τ).loc main_arg0))

/-- What the launch hands a device's run. -/
def kit (x : Dev nD → S1x512x512.Idx → F .bf16) (c : Dev nD) : sProp 𝕄 :=
  iprop(agreed x ∗ (bigSep Finset.univ fun i : Slot => atPos EX (cellAt (c, i)) 0 ∅ 0) ∗ paying c
    ∗ (bigSep Finset.univ fun p : Xfer => cred (tallyAt (recvCell p.1 p.2 c) () N)) ∗ cred (tallyAt (barCell c) () 2))

/-- What the run hands back. -/
def settled (c : Dev nD) : sProp 𝕄 :=
  iprop((bigSep Finset.univ fun p : Xfer => finished p.1 p.2 c) ∗ semVal (barCell c) 0)

/-- The launch's data on device `c`: its arrays before, what the body leaves in each window, what it holds and owes
    around the one grid point. -/
def dats (_ : Fin 1) (c : Dev nD) : Dat τ (Elt F) Unit ℕ UU ℕ cfg0 c where
  A w := m ((cfg0.win w).arr.view.loc (c : Thread nD τ))
  after w _ := match w with
    | ⟨0, _⟩ => xin m c
    | ⟨1, _⟩ => acc (xin m) 2 c
  Φ t := match t with
    | ⟨0, _⟩ => iprop(kit (xin m) c ∗ landBuf 0 c ∗ landBuf 1 c)
    | ⟨_ + 1, _⟩ => settled c
  q _ := fullShare
  owed t := match t with
    | ⟨0, _⟩ => dues c
    | ⟨_ + 1, _⟩ => 0

/-- Every window's array is held whole. -/
theorem share_eq (c : Dev nD) (w : Fin cfg0.W) : (dats m 0 c).share w = fullShare := by unfold Dat.share; split <;> rfl

/-! ## The body's obligation -/

omit [FloatOps F] in
/-- A family over the two sides is its two parts. -/
theorem by_side (Φ : Bool → sProp 𝕄) : bigSep Finset.univ Φ = iprop(Φ true ∗ Φ false) :=
  bigSep_univ_eq_bigSepL [true, false] (by decide) (by decide) Φ

/-- What the launch hands over, with the windows' buffers, is what the body starts from. -/
theorem before_intro (x : Dev nD → S1x512x512.Idx → F .bf16) (c : Dev nD) :
    iprop((kit x c ∗ landBuf 0 c ∗ landBuf 1 c) ∗ owing c (dues c) ∗ holds c xM (x c) ∗ ∃ X, holds c oM X) ⊢ before x c := by
  unfold kit before paying claim
  rw [by_slot, by_side, bigSep_sep', bigSep_sep',
    bigSep_univ_prod (fun p : Fin 2 × Fin 4 => iprop(∃ X, holds c (inM p.1 p.2) X)), bigSep_univ_two]
  iintro ⟨⟨⟨HA, ⟨⟨Hr, Hs⟩, Hb⟩, ⟨HT, Ht⟩, Hc, Hcb⟩, HL, HL'⟩, HO, HX, HY⟩
  ihave HL := (slots_split 0 c) $$ HL
  ihave HL' := (slots_split 1 c) $$ HL'
  isplitl [HA]; · iexact HA
  isplitl [HO]; · iexact HO
  isplitl [HX]; · iexact HX
  isplitl [HY]; · iexact HY
  isplitl [HL HL']
  · isplitl [HL]; · iexact HL
    iexact HL'
  isplitl [Ht]; · iexact Ht
  isplitl [HT]; · iexact HT
  isplitl [Hc Hs Hr]
  · isplitl [Hc]; · iexact Hc
    isplitl [Hs]; · iexact Hs
    iexact Hr
  isplitl [Hcb]; · iexact Hcb
  iexact Hb

/-- The body meets what the pipeline asks of it at the one grid point. -/
theorem body_obligation (c : Dev nD) : BodyObligation (dats (F := F) m 0 c) (defs₀ (F := F)) noVariants () Set.univ := fun t => by
  rw [show t = t0_0 from fin_N0 t]
  rw [bigSep_W0, bigSep_W0]
  show iprop((kit (xin m) c ∗ landBuf 0 c ∗ landBuf 1 c) ∗ (dats m 0 c).owesAt () (t0_0 : Fin cfg0.N).castSucc
      ∗ (∃ d, holds c xM ((dats m 0 c).before (0 : Fin 2) t0_0 d)) ∗ ∃ d, holds c oM ((dats m 0 c).before (1 : Fin 2) t0_0 d))
    ⊢ runs c (cc0_body (Memref.whole cc0_stg0_0) (Memref.isWhole_whole _) (Memref.whole cc0_stg1_0) (Memref.isWhole_whole _)
          (Memref.whole cc0_scratch0) (Memref.isWhole_whole _) (Memref.whole cc0_scratch1) (Memref.isWhole_whole _)
          cc0_scratch2 cc0_scratch3 cc0_scratch4 cc0_scratch5)
        fun _ => iprop(settled c ∗ (dats m 0 c).owesAt () (t0_0 : Fin cfg0.N).succ ∗ holds c xM (xin m c) ∗ holds c oM (acc (xin m) 2 c))
  iintro ⟨HK, HO, ⟨%d, HX⟩, ⟨%d', HY⟩⟩
  iapply (run_body (xin m) c _)
  isplitl [HK HO HX HY]
  · iapply (before_intro (xin m) c)
    isplitl [HK]; · iexact HK
    isplitl [HO]
    · unfold Dat.owesAt Pipeline.owesWithin owing
      icases HO with ⟨%W, -, HO⟩
      iexists W; iexact HO
    isplitl [HX]
    · iapply (Entails.of_eq (congrArg (holds c xM) (show (dats m 0 c).before (0 : Fin 2) t0_0 d = xin m c by
        unfold Dat.before; rw [if_pos (fetch0_0 t0_0)]; rfl)))
      iexact HX
    · iexists _; iexact HY
  · unfold after settled owing
    iintro ⟨⟨%W, HO⟩, HX, HY, HD, HZ⟩
    isplitl [HD HZ]
    · isplitl [HD] <;> iassumption
    isplitl [HO]
    · unfold Dat.owesAt Pipeline.owesWithin
      iexists W
      isplitr; · ipureintro; exact fun _ _ => Or.inl trivial
      iexact HO
    isplitl [HX] <;> iassumption

/-! ## Entering and leaving the kernel -/

/-- Entering: what a device has when set up, with its launch credits, is its kit, -/
theorem enter (c : Dev nD) :
    iprop(Pipeline.unscopedRestP Pipeline.Prefetch.none cfg0.spec c (fun b => m ((c : Thread nD τ).loc b)) ∗ levAts L lv
        ∗ Pipeline.launchCred dues c ∗ prngReg c (ρ c) ∗ ready (xin m) c)
      ⊢ |={Set.univ}=> iprop(kit (xin m) c ∗ emp) := by
  unfold ready kit agreed
  iintro ⟨-, Hlev, Hcr, -, HK, Hat, Hp⟩
  ihave Hc := (credits (F := F) c) $$ Hcr
  icases Hc with ⟨Hc, Hb⟩
  imodintro
  isplitl
  · isplitl [HK Hlev]
    · isplitl [HK] <;> iassumption
    isplitl [Hat]; · iexact Hat
    isplitl [Hp]; · iexact Hp
    isplitl [Hc] <;> iassumption
  · iempintro

omit [FloatOps F] in
/-- The kernel's own buffers are the two landing buffers. -/
theorem own_bufs (c : Dev nD) :
    (Pipeline.scopedRest (Ix := Unit) (Name := ℕ) (U := UU) (Lvl := ℕ) (Val := Elt F) cfg0.spec c : sProp 𝕄) = iprop(landBuf 0 c ∗ landBuf 1 c) :=
  scopedRest0_eq c

/-- and with the landing buffers what the body starts from. -/
theorem enter_bufs (c : Dev nD) :
    iprop(kit (xin m) c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(kit (xin m) c ∗ landBuf 0 c ∗ landBuf 1 c) from rfl, own_bufs]
  iintro ⟨HK, -, HL, HL'⟩
  isplitl [HK]; · iexact HK
  isplitl [HL]; · iexact HL
  iexact HL'

/-- Leaving: the semaphores are at zero and the landing buffers are given back. -/
theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = settled c from rfl, own_bufs]
  rw [barrier_sem]
  unfold settled finished Pipeline.ownSems0
  rw [bigSep_sep', bigSep_sep', bigSep_univ_prod (fun p : Fin 2 × Fin 4 => iprop(∃ X, holds c (inM p.1 p.2) X)), bigSep_univ_two,
    bigSep_univ_prod (fun p : Bool × Xfer => semVal ((c : Thread nD τ), osem p) 0), by_side]
  iintro ⟨⟨Hs, Hr, HL, HL'⟩, HZ⟩
  ihave HL := (slots_join 0 c) $$ HL
  ihave HL' := (slots_join 1 c) $$ HL'
  isplitl [HZ]; · iexact HZ
  isplitl [Hs Hr]
  · isplitl [Hr]; · iexact Hr
    iexact Hs
  isplitl [HL]; · iexact HL
  iexact HL'

/-- The pipeline's own waits are below everything owed. -/
theorem waits (c : Dev nD) : (levAts L lv : sProp 𝕄) ⊢ Pipeline.cellsWaits cfgs (dats m) () 0 c :=
  Pipeline.cellsWaits_intro cfgs (dats m) () 0 c fun w s t =>
    mayWait c _ 0 _ (by fin_cases w <;> fin_cases s <;> exact Nat.le_of_eq rfl) (by
      rcases t with ⟨_ | _, ht⟩
      · exact above_dues c
      · exact above_zero 0)

/-! ## The run of the program -/

/-- The contents of a window's array on device `c` at the end. -/
def finalA (c : Dev nD) (w : Fin cfg0.W) : Buf (Elt F) ((cfg0.win w).arr.view.loc (c : Thread nD τ)) := (dats m 0 c).arrAt w cfg0.N

set_option maxRecDepth 8000 in
/-- On four devices, from any memory with every semaphore at zero, every fair execution ends, with each device's argument and
    result arrays as computed and every semaphore at zero. -/
theorem run_main : θ_run defs (onTc (τ := τ) (main (F := F))) (s₀ m ρ) (fun r =>
    (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ noVariants m ρ main
    (hmain := fun _ => rfl)
    (hbody := body_obligation m) (hne := block_pos0) (harr := arr_whole0) (hstage := stage_whole0) (hshare := share_eq m)
    (hdistinct := winFacts0.arr_inj)
    (O₀ := dues) (howed₀ := fun _ => rfl) (howedN := fun _ => rfl)
    (L := L) (lv := lv) (hL := L_of_ne) (hwaits := waits m)
    (G := dealt (xin m)) (G' := ready (xin m)) (u₀ := u₀)
    (hu₀ := by
      unfold u₀
      iintro Hu
      ihave H := (ownU_pair _ _) $$ Hu
      icases H with ⟨HP, HX⟩
      imod (fund (xin m)) $$ HX with HG
      imodintro
      isplitl [HP] <;> iassumption)
    (hglob := start_all (xin m))
    (hA := fun _ _ => rfl) (hpf := fun _ k => k.elim0)
    (X := kit (xin m)) (Y := fun c => unscopedSems0 c) (Z := fun _ => iprop(emp))
    (hX := enter m ρ) (hin := enter_bufs m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument is as it was. -/
theorem finalA_arg (c : Dev nD) : finalA m c (0 : Fin 2) = m ((c : Thread nD τ).loc main_arg0) :=
  (dats (F := F) m 0 c).arrAt_in (0 : Fin 2) rfl _

/-- The frame, over any floats: every fair execution ends with the arguments as before and every semaphore at zero. -/
theorem run_frame : θ_run defs (onTc (τ := τ) (main (F := F))) (s₀ m ρ) (fun r =>
    (∀ c : Dev nD, r.2.mem ((c : Thread nD τ).loc main_arg0) = m ((c : Thread nD τ).loc main_arg0)) ∧ r.2.sem = fun _ => 0) :=
  (θ_run defs _ _).mono (fun _ h => ⟨fun c => (h.1 c (0 : Fin 2)).trans (finalA_arg m c), h.2⟩) (run_main m ρ)

end Cert.AllReduce

end
-- ==== Proof.Value.lean ====
/-
# The value

Over the extended reals the two-stage sum is, on every device, the sum of the four devices' blocks; and that is what
the reference computes from the whole array.
-/
module

public import Idealize.ShloMosaic.Lib.IdealHost
public import Idealize.ShloMosaic.Lib.Layout
public import Idealize.ShloMosaic.Lib.Pointwise.Reduce
public import Idealize.ShloMosaic.Lib.Pipeline.ValueKit.Geometry
public import proofs.«01_k».proof.Proof.Run
public import proofs.«01_k».proof.Proof.Gen.ReferenceIdeal.Run

@[expose] public section

noncomputable section

namespace Cert.AllReduce

open Cert.KernelIdeal Cert.KernelIdeal.Gen
open Idealize.ShloMosaic Idealize.ShloMosaic.Pipeline
open Idealize.ShloMosaic.TcCoe

/-! ## The result array -/

section Arrays

variable {F : FTy → Type} [FloatOps F]
variable (m : ∀ ℓ : Loc nD τ sig, Buf (Elt F) ℓ)

/-- The kernel's result array on device `c` ends holding the two-stage sum. -/
theorem finalA_result (c : Dev nD) : finalA m c (1 : Fin 2) = acc (xin m) 2 c :=
  (dats m 0 c).arrAt_eq_of_after_last (1 : Fin 2) t0_0 (by decide +kernel) _ fun _ => rfl

omit [FloatOps F] in
/-- Device `c`'s block is its whole argument. -/
theorem xin_eq (c : Dev nD) : xin m c = m ((c : Thread nD τ).loc main_arg0) := by
  funext i
  refine congrArg (m ((c : Thread nD τ).loc main_arg0)) (funext fun a => Fin.ext ?_)
  exact Window.rect_emb_val_of_index_zero win0_0 (0 : Fin 1) a (by revert a; decide) i

end Arrays

/-! ## The sum over the devices -/

/-- Whichever partner comes first, a device, its first partner, its second partner and that one's first partner are all
    four devices. -/
theorem sum_partners {A : Type} [AddCommMonoid A] (f : Dev nD → A) (b : Bool) (c : Dev nD) :
    (f c + f (partner b c)) + (f (partner (!b) c) + f (partner b (partner (!b) c))) = ∑ d, f d := by
  rw [show ∑ d, f d = f 0 + f 1 + f 2 + f 3 from Fin.sum_univ_four f]
  cases b <;> fin_cases c
  · show (f 0 + f 1) + (f 3 + f 2) = _; ac_rfl
  · show (f 1 + f 0) + (f 2 + f 3) = _; ac_rfl
  · show (f 2 + f 3) + (f 1 + f 0) = _; ac_rfl
  · show (f 3 + f 2) + (f 0 + f 1) = _; ac_rfl
  · show (f 0 + f 3) + (f 1 + f 2) = _; ac_rfl
  · show (f 1 + f 2) + (f 0 + f 3) = _; ac_rfl
  · show (f 2 + f 1) + (f 3 + f 0) = _; ac_rfl
  · show (f 3 + f 0) + (f 2 + f 1) = _; ac_rfl

/-- The second stage's partner is the other one than the first's. -/
theorem side_one (k : Fin 4) : side 1 k = !side 0 k := by
  revert k; decide

/-- Over the extended reals the two stages leave on every device the sum over all devices. -/
theorem acc_two (x : Dev nD → S1x512x512.Idx → Ideal .bf16) (c : Dev nD) (i : S512x512.Idx) :
    (acc x 2 c i : EReal) = ∑ d, (x d (front i) : EReal) := by
  rw [← sum_partners (fun d => (x d (front i) : EReal)) (side 0 (chunkOf i)) c, ← side_one]
  rfl

/-! ## The reference -/

/-- The reference's result at an index: the sum of the whole array over its first axis. -/
theorem reference_apply (X : Cert.ReferenceIdeal.S4x512x512.Idx → Ideal .bf16) (i : S512x512.Idx) :
    (truncf .bf16 (Host.reduceAdd (extf .f32 X Cert.ReferenceIdeal.Facts₀.bitsLt_bf16_f32)
      (constant Cert.ReferenceIdeal.S_ .f32 0x00000000#32)
      Cert.ReferenceIdeal.Facts₀.reducesTo_S4x512x512_S512x512_d0 Cert.ReferenceIdeal.Facts₀.h_S_)
      Cert.ReferenceIdeal.Facts₀.bitsLt_bf16_f32 i : EReal) = ∑ d : Fin 4, (X (ix3 d (i 0) (i 1)) : EReal) := by
  show Ideal.hostReduceAdd Cert.ReferenceIdeal.Facts₀.reducesTo_S4x512x512_S512x512_d0 X (Ideal.ofBits .f32 0x00000000#32) i = _
  rw [Ideal.hostReduceAdd_r3_a0, Ideal.ofBits_zero_f32, zero_add]
  rfl

/-- Device `d`'s block of the whole array, at an index. -/
theorem block_front (h : Layout.Tiles S1x512x512 Cert.ReferenceIdeal.S4x512x512 0 4) (d : Fin 4) (i : S512x512.Idx) :
    h.idx d (front i) = ix3 d (i 0) (i 1) := by
  funext a
  apply Fin.ext
  fin_cases a
  · show d.val * 1 + 0 = d.val; omega
  · rfl
  · rfl

/-- If every device holds its block of the whole array `X`, every device's result is the reference's result from `X`. -/
theorem acc_eq_reference (X : Cert.ReferenceIdeal.S4x512x512.Idx → Ideal .bf16) (x : Dev nD → S1x512x512.Idx → Ideal .bf16)
    (h : ∀ d, x d = Layout.block S1x512x512 Cert.ReferenceIdeal.S4x512x512 0 4 d X) (c : Dev nD) :
    acc x 2 c = truncf .bf16 (Host.reduceAdd (extf .f32 X Cert.ReferenceIdeal.Facts₀.bitsLt_bf16_f32)
      (constant Cert.ReferenceIdeal.S_ .f32 0x00000000#32)
      Cert.ReferenceIdeal.Facts₀.reducesTo_S4x512x512_S512x512_d0 Cert.ReferenceIdeal.Facts₀.h_S_)
      Cert.ReferenceIdeal.Facts₀.bitsLt_bf16_f32 := by
  funext i
  refine (acc_two x c i).trans (Eq.trans (Finset.sum_congr rfl fun d _ => ?_) (reference_apply X i).symm)
  rw [h, Layout.block_apply, block_front]
  rfl

end Cert.AllReduce

end
-- ==== Proof.lean ====
/-
# The claims

The butterfly all-reduce terminates on four devices and leaves its argument and all semaphores as they were, on machine
floats and over the extended reals; and over the extended reals its result on every device is the sum of the four
devices' blocks, which the reference computes on one device.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

/-- The kernel's body table is the idealized kernel's: no operation was replaced. -/
theorem bodies_eq {F : FTy → Type} [FloatOps F] : Cert.Kernel.defs₀ (F := F) = Cert.KernelIdeal.defs₀ (F := F) :=
  congrArg Defs.onTc (funext fun ℓ => funext fun a => by
    match ℓ, a with
    | ⟨0, _⟩, (_, _) => rfl)

/-- The kernel runs on machine floats: it ends, its argument is as before, every semaphore is at zero. Its text is the
    idealized kernel's, whose run is proved over any floats. -/
theorem frame_kernel : Cert.quiescent_Kernel := fun m ρ _ => by
  have h := Cert.AllReduce.run_frame (F := Bits) m ρ
  unfold Cert.KernelIdeal.defs at h
  rw [← bodies_eq] at h
  exact h

/-- The same over the extended reals. -/
theorem frame_kernelIdeal : Cert.quiescent_KernelIdeal := fun m ρ _ => Cert.AllReduce.run_frame (F := Ideal) m ρ

/-- The reference runs, its argument is as before; it has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result on every device is the reference's result from the whole array, over the extended reals. -/
theorem value : Cert.algebraic_KernelIdeal_ReferenceIdeal := fun m ρ m' ρ' _ hX =>
  ⟨_, (θ_run Cert.KernelIdeal.defs _ _).mono
      (fun _ h c => ⟨((h.1 c (1 : Fin 2)).trans (Cert.AllReduce.finalA_result m c)).trans
          (Cert.AllReduce.acc_eq_reference _ _ (fun d => (Cert.AllReduce.xin_eq m d).trans (hX d)) c),
        (h.1 c (0 : Fin 2)).trans (Cert.AllReduce.finalA_arg m c)⟩)
      (Cert.AllReduce.run_main (F := Ideal) m ρ),
    (θ_run Cert.ReferenceIdeal.defs _ _).mono (fun _ h => h 0) (Cert.ReferenceIdeal.Value.run m' ρ')⟩

/-- All the claims. -/
theorem claim : Cert.Claim :=
  ⟨Cert.Kernel.Gen.facts, Cert.KernelIdeal.Gen.facts, Cert.ReferenceIdeal.Gen.facts,
    frame_kernel, frame_kernelIdeal, frame_reference, trivial, value⟩

end Cert.Proof

end
